-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v3_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3_0) = v0 c
          ∧ r.2.mem ((c.tc : Thread Cert.ReferenceIdeal.nD Cert.ReferenceIdeal.τ).loc Cert.ReferenceIdeal.main_v3_1) = v1 c
          ∧ r.2.mem ((c.tc : Thread Cert.ReferenceIdeal.nD Cert.ReferenceIdeal.τ).loc Cert.ReferenceIdeal.main_v3_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x4096x4096 : Shape := ⟨3, ![1, 4096, 4096]⟩
abbrev S_ : Shape := ⟨0, ![]⟩
abbrev S1x4096x3072 : Shape := ⟨3, ![1, 4096, 3072]⟩
abbrev S4096x3072 : Shape := ⟨2, ![4096, 3072]⟩
abbrev S1x1 : Shape := ⟨2, ![1, 1]⟩
abbrev S4096x4096 : Shape := ⟨2, ![4096, 4096]⟩
abbrev S4096x256 : Shape := ⟨2, ![4096, 256]⟩
abbrev S256x3072 : Shape := ⟨2, ![256, 3072]⟩
abbrev S1 : Shape := ⟨1, ![1]⟩
abbrev S8 : Shape := ⟨1, ![8]⟩
abbrev S512x3072 : Shape := ⟨2, ![512, 3072]⟩
abbrev S16x3072 : Shape := ⟨2, ![16, 3072]⟩
abbrev S32x16x3072 : Shape := ⟨3, ![32, 16, 3072]⟩
abbrev S1x16x3072 : Shape := ⟨3, ![1, 16, 3072]⟩
abbrev S1x1x1 : Shape := ⟨3, ![1, 1, 1]⟩
abbrev S8x128 : Shape := ⟨2, ![8, 128]⟩

abbrev nBuf : Space → Nat
  | .hbm => 10
  | .vmem => 8
  | .smem => 3
  | _ => 0

abbrev bufTy : (tb : Table) → Fin (tcTables nBuf tb) → BufTy
  | .hbm, ⟨0, _⟩ => ⟨S1x4096x4096, .fp8e4m3⟩
  | .hbm, ⟨1, _⟩ => ⟨S_, .f32⟩
  | .hbm, ⟨2, _⟩ => ⟨S1x4096x3072, .bf16⟩
  | .hbm, ⟨3, _⟩ => ⟨S4096x3072, .f32⟩
  | .hbm, ⟨4, _⟩ => ⟨S1x1, .f32⟩
  | .hbm, ⟨5, _⟩ => ⟨S4096x4096, .fp8e4m3⟩
  | .hbm, ⟨6, _⟩ => ⟨S4096x3072, .bf16⟩
  | .hbm, ⟨7, _⟩ => ⟨S4096x3072, .f32⟩
  | .hbm, ⟨8, _⟩ => ⟨S4096x3072, .fp8e5m2⟩
  | .hbm, ⟨9, _⟩ => ⟨S1x1, .f32⟩
  | .local _ .vmem, ⟨0, _⟩ => ⟨S4096x256, .fp8e4m3⟩
  | .local _ .vmem, ⟨1, _⟩ => ⟨S4096x256, .fp8e4m3⟩
  | .local _ .vmem, ⟨2, _⟩ => ⟨S256x3072, .f32⟩
  | .local _ .vmem, ⟨3, _⟩ => ⟨S256x3072, .f32⟩
  | .local _ .vmem, ⟨4, _⟩ => ⟨S256x3072, .f32⟩
  | .local _ .vmem, ⟨5, _⟩ => ⟨S256x3072, .f32⟩
  | .local _ .vmem, ⟨6, _⟩ => ⟨S4096x3072, .bf16⟩
  | .local _ .vmem, ⟨7, _⟩ => ⟨S4096x3072, .fp8e5m2⟩
  | .local _ .smem, ⟨0, _⟩ => ⟨S1x1, .f32⟩
  | .local _ .smem, ⟨1, _⟩ => ⟨S1x1, .f32⟩
  | .local _ .smem, ⟨2, _⟩ => ⟨S1, .f32⟩
  | _, _ => ⟨S1x4096x4096, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_scratch1 : Ref sig .tc := ⟨.vmem, 7, rfl⟩
abbrev cc0_stg0_0 : Ref sig .tc := ⟨.smem, 0, rfl⟩
abbrev cc0_stg4_0 : Ref sig .tc := ⟨.smem, 1, rfl⟩
abbrev cc0_scratch2 : Ref sig .tc := ⟨.smem, 2, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S1x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4096x256 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x3072 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x3072 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .smem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== ReferenceIdeal.lean ====
abbrev S1x4096x4096 : Shape := ⟨3, ![1, 4096, 4096]⟩
abbrev S_ : Shape := ⟨0, ![]⟩
abbrev S1x4096x3072 : Shape := ⟨3, ![1, 4096, 3072]⟩
abbrev S4096x3072 : Shape := ⟨2, ![4096, 3072]⟩
abbrev S1x1 : Shape := ⟨2, ![1, 1]⟩
abbrev S4096x4096 : Shape := ⟨2, ![4096, 4096]⟩
abbrev S1 : Shape := ⟨1, ![1]⟩
abbrev S1x1x1 : Shape := ⟨3, ![1, 1, 1]⟩

abbrev nBuf : Space → Nat
  | .hbm => 10
  | .vmem => 7
  | .smem => 0
  | _ => 0

abbrev bufTy : (tb : Table) → Fin (tcTables nBuf tb) → BufTy
  | .hbm, ⟨0, _⟩ => ⟨S1x4096x4096, .fp8e4m3⟩
  | .hbm, ⟨1, _⟩ => ⟨S_, .f32⟩
  | .hbm, ⟨2, _⟩ => ⟨S1x4096x3072, .bf16⟩
  | .hbm, ⟨3, _⟩ => ⟨S4096x3072, .f32⟩
  | .hbm, ⟨4, _⟩ => ⟨S1x1, .f32⟩
  | .hbm, ⟨5, _⟩ => ⟨S4096x4096, .fp8e4m3⟩
  | .hbm, ⟨6, _⟩ => ⟨S4096x3072, .bf16⟩
  | .hbm, ⟨7, _⟩ => ⟨S4096x3072, .f32⟩
  | .hbm, ⟨8, _⟩ => ⟨S4096x3072, .fp8e5m2⟩
  | .hbm, ⟨9, _⟩ => ⟨S1x1, .f32⟩
  | .local _ .vmem, ⟨0, _⟩ => ⟨S1x1, .f32⟩
  | .local _ .vmem, ⟨1, _⟩ => ⟨S4096x4096, .fp8e4m3⟩
  | .local _ .vmem, ⟨2, _⟩ => ⟨S4096x3072, .bf16⟩
  | .local _ .vmem, ⟨3, _⟩ => ⟨S4096x3072, .f32⟩
  | .local _ .vmem, ⟨4, _⟩ => ⟨S4096x3072, .f32⟩
  | .local _ .vmem, ⟨5, _⟩ => ⟨S4096x3072, .fp8e5m2⟩
  | .local _ .vmem, ⟨6, _⟩ => ⟨S1x1, .f32⟩
  | _, _ => ⟨S1x4096x4096, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S1x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x4096 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4096x3072 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x3072 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4096x3072 .fp8e5m2 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.BodyBits.lean ====
module

public import proofs.«01_k».proof.Proof.Gen.Kernel.Launch
public import proofs.«01_k».proof.Proof.Gen.Kernel.Skeleton
public import proofs.«01_k».proof.Proof.Gen.Kernel.Points
public import proofs.«01_k».proof.Proof.Gen.Kernel.Frame
public import Idealize.ShloMosaic.Lib.Pipeline.FrameBody
public import Idealize.ShloMosaic.Lib.Pipeline.Routed
public import Idealize.ShloMosaic.Lib.Ring
public import Idealize.ShloMosaic.Lib.Tactic
public import Idealize.ShloMosaic.Lib.WordCmp
public import Idealize.ShloMosaic.Lib.Pipeline.Value
public import Idealize.ShloMosaic.Lib.Pipeline.TableIdle

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's resources: the pipeline library's beside the counters of the body's own transfers. -/
local notation "𝕄" => MT nD τ sig Unit (Elt F) ℕ (Pipeline.UC sig nD τ) ℕ

/-- The whole operands the pipeline does not stage: the gradient and the codes in HBM, their VMEM copies, the scale. -/
abbrev mDy : Memref sig .tc .hbm S4096x3072 .bf16 := Memref.whole main_v2
abbrev mOut : Memref sig .tc .hbm S4096x3072 .fp8e5m2 := Memref.whole main_v3_1
abbrev mDyV : Memref sig .tc .vmem S4096x3072 .bf16 := Memref.whole cc0_scratch0
abbrev mCodes : Memref sig .tc .vmem S4096x3072 .fp8e5m2 := Memref.whole cc0_scratch1
abbrev mScale : Memref sig .tc .smem S1 .f32 := Memref.whole cc0_scratch2

/-- A memref's buffer held whole at contents `f`. -/
abbrev pt (c : Dev nD) {sp : Space} {S : Shape} {e : EltTy} (M : Memref sig .tc sp S e)
    (f : Buf (Elt F) (M.view.loc (c : Thread nD τ))) : sProp 𝕄 :=
  M.view.loc (c : Thread nD τ) ↦{fullShare} f

/-- A memref's own elements held at share `q`. -/
abbrev ptAt (c : Dev nD) {sp : Space} {S : Shape} {e : EltTy} (M : Memref sig .tc sp S e) (q : PosShare TreeShare)
    (f : Buf (Elt F) (M.view.loc (c : Thread nD τ))) : sProp 𝕄 :=
  M.view.loc (c : Thread nD τ) ↦[M.view.set]{q} f

/-- The kernel at point `i` on its staging memrefs. -/
abbrev bodyOn (i : grid0.Coords) (arg1 : Memref sig .tc .smem S1x1 .f32) (h1 : arg1.IsWhole)
    (arg2 : Memref sig .tc .vmem S4096x256 .fp8e4m3) (h2 : arg2.IsWhole) (arg4 : Memref sig .tc .vmem S256x3072 .f32) (h4 : arg4.IsWhole)
    (arg5 : Memref sig .tc .vmem S256x3072 .f32) (h5 : arg5.IsWhole) (arg7 : Memref sig .tc .smem S1x1 .f32) (h7 : arg7.IsWhole) :
    Prog (TpuEff nD τ sig (Elt F) Λ₀ .tc) PUnit :=
  cc0_fp8_dw i arg1 h1 arg2 h2 mDy (Memref.isWhole_whole _) arg4 h4 arg5 h5 mOut (Memref.isWhole_whole _) arg7 h7
    mDyV (Memref.isWhole_whole _) mCodes (Memref.isWhole_whole _) mScale (Memref.isWhole_whole _) cc0_scratch3 cc0_scratch4

/-! ## The values, as functions of the gradient -/

/-- The 512 rows from row `k` up. -/
abbrev rowR (k : ℕ) (h : ∀ a, (![k, 0] : Fin 2 → ℕ) a + S512x3072.size a ≤ S4096x3072.size a) : Rect S4096x3072 :=
  Rect.unit (s := S4096x3072) ![k, 0] S512x3072.size h

/-- Rows `k` up of the gradient, a chunk: the block the kernel copies, reduces and quantises at once. -/
def chunk (dy : Vec F S4096x3072 .bf16) (k : ℕ) (h : ∀ a, (![k, 0] : Fin 2 → ℕ) a + S512x3072.size a ≤ S4096x3072.size a) :
    Vec F S512x3072 .bf16 :=
  fun y => dy ((rowR k h).emb y)

/-- The running absolute maximum after five of the eight chunks. -/
def partMax (dy : Vec F S4096x3072 .bf16) : FVec F S16x3072 .bf16 :=
  k0_pay3 (k0_pay2 (chunk dy 0 inb_S4096x3072_S512x3072_0_0) (chunk dy 512 inb_S4096x3072_S512x3072_512_0))
    (chunk dy 1024 inb_S4096x3072_S512x3072_1024_0) (chunk dy 1536 inb_S4096x3072_S512x3072_1536_0)
    (chunk dy 2048 inb_S4096x3072_S512x3072_2048_0)

/-- The absolute maximum of the whole gradient, broadcast over a tile. -/
def amaxT (dy : Vec F S4096x3072 .bf16) : FVec F S8x128 .f32 :=
  k0_pay4 (partMax dy) (chunk dy 2560 inb_S4096x3072_S512x3072_2560_0) (chunk dy 3072 inb_S4096x3072_S512x3072_3072_0)
    (chunk dy 3584 inb_S4096x3072_S512x3072_3584_0)

/-- The maximum over the format's largest value: what the scale's exponent is read from. -/
def ratioT (dy : Vec F S4096x3072 .bf16) : FVec F S8x128 .f32 :=
  k0_pay5 (partMax dy) (chunk dy 2560 inb_S4096x3072_S512x3072_2560_0) (chunk dy 3072 inb_S4096x3072_S512x3072_3072_0)
    (chunk dy 3584 inb_S4096x3072_S512x3072_3584_0)

/-- The scale. -/
def scaleOf (dy : Vec F S4096x3072 .bf16) : F .f32 :=
  k0_pay15 (k0_pay12 (amaxT dy) (ratioT dy) (k0_pay8 (ratioT dy) k0_pay6 k0_pay7) (k0_pay9 (ratioT dy) k0_pay6 k0_pay7)
    (k0_pay10 (ratioT dy) k0_pay6 k0_pay7))

/-- The scale's reciprocal. -/
def invOf (dy : Vec F S4096x3072 .bf16) : F .f32 :=
  k0_pay16
    (k0_pay13 (amaxT dy) (ratioT dy) (k0_pay8 (ratioT dy) k0_pay6 k0_pay7) (k0_pay9 (ratioT dy) k0_pay6 k0_pay7)
      (k0_pay10 (ratioT dy) k0_pay6 k0_pay7))
    (k0_pay14 (amaxT dy) (ratioT dy) (k0_pay8 (ratioT dy) k0_pay6 k0_pay7) (k0_pay9 (ratioT dy) k0_pay6 k0_pay7)
      (k0_pay10 (ratioT dy) k0_pay6 k0_pay7)) 255#32

/-- Elements scaled by `inv`, clamped to the format's range and rounded to it. -/
def quant {S : Shape} (inv : F .f32) (x : FVec F S .bf16) : FVec F S .fp8e5m2 :=
  truncf .fp8e5m2 (minimumf (broadcast S (Scalar.ofBits .f32 0x47600000#32)) (maximumf (broadcast S (Scalar.ofBits .f32 0xC7600000#32))
    (mulf (extf .f32 x bitsLt_bf16_f32) (broadcast S inv)))) bitsLt_fp8e5m2_f32

/-- The codes of the whole gradient. -/
def codesOf (dy : Vec F S4096x3072 .bf16) : FVec F S4096x3072 .fp8e5m2 := quant (invOf dy) dy

/-- A result block: the accumulator's rows plus the scaled product of the codes. -/
def outOf (dy : Vec F S4096x3072 .bf16) (x : Vec F S4096x256 .fp8e4m3) (acc : Vec F S256x3072 .f32) (xs : F .f32) : FVec F S256x3072 .f32 :=
  k0_pay1 x (codesOf dy) acc xs (scaleOf dy)

theorem rows_cover {e : EltTy} {Val : EltTy → Type} {w0 w1 w2 w3 w4 w5 w6 w7} (y : S4096x3072.Idx) :
    ∃ p ∈ ([⟨rowR 3584 inb_S4096x3072_S512x3072_3584_0, w7⟩,
      ⟨rowR 3072 inb_S4096x3072_S512x3072_3072_0, w6⟩,
      ⟨rowR 2560 inb_S4096x3072_S512x3072_2560_0, w5⟩,
      ⟨rowR 2048 inb_S4096x3072_S512x3072_2048_0, w4⟩,
      ⟨rowR 1536 inb_S4096x3072_S512x3072_1536_0, w3⟩,
      ⟨rowR 1024 inb_S4096x3072_S512x3072_1024_0, w2⟩,
      ⟨rowR 512 inb_S4096x3072_S512x3072_512_0, w1⟩,
      ⟨rowR 0 inb_S4096x3072_S512x3072_0_0, w0⟩] : List (View.Piece Val S4096x3072 e)), y ∈ p.1.set :=
  View.cover_of_tiledL (s := S4096x3072) _ S512x3072.size (by sl_kernel_rfl) y

/-- Eight row blocks written from one function leave the function. -/
theorem canon_rows {e : EltTy} {Val : EltTy → Type} [∀ e, Nonempty (Val e)] (G : S4096x3072.Idx → Val e) {w0 w1 w2 w3 w4 w5 w6 w7}
    (e0 : w0 = fun y => G ((rowR 0 inb_S4096x3072_S512x3072_0_0).emb y))
    (e1 : w1 = fun y => G ((rowR 512 inb_S4096x3072_S512x3072_512_0).emb y))
    (e2 : w2 = fun y => G ((rowR 1024 inb_S4096x3072_S512x3072_1024_0).emb y))
    (e3 : w3 = fun y => G ((rowR 1536 inb_S4096x3072_S512x3072_1536_0).emb y))
    (e4 : w4 = fun y => G ((rowR 2048 inb_S4096x3072_S512x3072_2048_0).emb y))
    (e5 : w5 = fun y => G ((rowR 2560 inb_S4096x3072_S512x3072_2560_0).emb y))
    (e6 : w6 = fun y => G ((rowR 3072 inb_S4096x3072_S512x3072_3072_0).emb y))
    (e7 : w7 = fun y => G ((rowR 3584 inb_S4096x3072_S512x3072_3584_0).emb y)) :
    View.canon ([⟨rowR 3584 inb_S4096x3072_S512x3072_3584_0, w7⟩,
      ⟨rowR 3072 inb_S4096x3072_S512x3072_3072_0, w6⟩,
      ⟨rowR 2560 inb_S4096x3072_S512x3072_2560_0, w5⟩,
      ⟨rowR 2048 inb_S4096x3072_S512x3072_2048_0, w4⟩,
      ⟨rowR 1536 inb_S4096x3072_S512x3072_1536_0, w3⟩,
      ⟨rowR 1024 inb_S4096x3072_S512x3072_1024_0, w2⟩,
      ⟨rowR 512 inb_S4096x3072_S512x3072_512_0, w1⟩,
      ⟨rowR 0 inb_S4096x3072_S512x3072_0_0, w0⟩] : List (View.Piece Val S4096x3072 e)) = G := by
  subst e0 e1 e2 e3 e4 e5 e6 e7
  funext y
  refine View.canon_apply_of_pieces G _ ?_ y (rows_cover y)
  intro p hp
  simp only [List.mem_cons, List.not_mem_nil, or_false] at hp
  rcases hp with rfl | rfl | rfl | rfl | rfl | rfl | rfl | rfl <;> exact fun _ => rfl

/-- A load of a chunk from the copy the eight transfers landed. -/
theorem readCov_rows (dy : Vec F S4096x3072 .bf16) {w0 w1 w2 w3 w4 w5 w6 w7 : S512x3072.Idx → Elt F .bf16}
    (e0 : w0 = chunk dy 0 inb_S4096x3072_S512x3072_0_0) (e1 : w1 = chunk dy 512 inb_S4096x3072_S512x3072_512_0)
    (e2 : w2 = chunk dy 1024 inb_S4096x3072_S512x3072_1024_0) (e3 : w3 = chunk dy 1536 inb_S4096x3072_S512x3072_1536_0)
    (e4 : w4 = chunk dy 2048 inb_S4096x3072_S512x3072_2048_0) (e5 : w5 = chunk dy 2560 inb_S4096x3072_S512x3072_2560_0)
    (e6 : w6 = chunk dy 3072 inb_S4096x3072_S512x3072_3072_0) (e7 : w7 = chunk dy 3584 inb_S4096x3072_S512x3072_3584_0) (k : ℕ)
    (h : ∀ a, (![k, 0] : Fin 2 → ℕ) a + S512x3072.size a ≤ S4096x3072.size a) :
    mDyV.view.readCov (Val := Elt F) [⟨rowR 3584 inb_S4096x3072_S512x3072_3584_0, w7⟩,
      ⟨rowR 3072 inb_S4096x3072_S512x3072_3072_0, w6⟩, ⟨rowR 2560 inb_S4096x3072_S512x3072_2560_0, w5⟩,
      ⟨rowR 2048 inb_S4096x3072_S512x3072_2048_0, w4⟩, ⟨rowR 1536 inb_S4096x3072_S512x3072_1536_0, w3⟩,
      ⟨rowR 1024 inb_S4096x3072_S512x3072_1024_0, w2⟩, ⟨rowR 512 inb_S4096x3072_S512x3072_512_0, w1⟩,
      ⟨rowR 0 inb_S4096x3072_S512x3072_0_0, w0⟩] (rowR k h).toLoadRect = chunk dy k h := by
  rw [View.readCov_eq_canon', canon_rows (Val := Elt F) dy e0 e1 e2 e3 e4 e5 e6 e7]
  rfl

theorem quant_chunk (inv : F .f32) (dy : Vec F S4096x3072 .bf16) (k : ℕ) (h) :
    quant inv (chunk dy k h) = fun y => quant inv dy ((rowR k h).emb y) := rfl

/-- The codes' eight stores leave the codes. -/
theorem canon_codes (dy : Vec F S4096x3072 .bf16) {L : List (View.Piece (Elt F) S4096x3072 .fp8e5m2)}
    (h : L = [⟨rowR 3584 inb_S4096x3072_S512x3072_3584_0, quant (invOf dy) (chunk dy 3584 inb_S4096x3072_S512x3072_3584_0)⟩,
      ⟨rowR 3072 inb_S4096x3072_S512x3072_3072_0, quant (invOf dy) (chunk dy 3072 inb_S4096x3072_S512x3072_3072_0)⟩,
      ⟨rowR 2560 inb_S4096x3072_S512x3072_2560_0, quant (invOf dy) (chunk dy 2560 inb_S4096x3072_S512x3072_2560_0)⟩,
      ⟨rowR 2048 inb_S4096x3072_S512x3072_2048_0, quant (invOf dy) (chunk dy 2048 inb_S4096x3072_S512x3072_2048_0)⟩,
      ⟨rowR 1536 inb_S4096x3072_S512x3072_1536_0, quant (invOf dy) (chunk dy 1536 inb_S4096x3072_S512x3072_1536_0)⟩,
      ⟨rowR 1024 inb_S4096x3072_S512x3072_1024_0, quant (invOf dy) (chunk dy 1024 inb_S4096x3072_S512x3072_1024_0)⟩,
      ⟨rowR 512 inb_S4096x3072_S512x3072_512_0, quant (invOf dy) (chunk dy 512 inb_S4096x3072_S512x3072_512_0)⟩,
      ⟨rowR 0 inb_S4096x3072_S512x3072_0_0, quant (invOf dy) (chunk dy 0 inb_S4096x3072_S512x3072_0_0)⟩]) :
    View.canon L = codesOf dy ∧ ∀ y, ∃ p ∈ L, y ∈ p.1.set := by
  subst h
  refine ⟨?_, fun y => rows_cover y⟩
  exact canon_rows (Val := Elt F) (e := .fp8e5m2) (codesOf dy) (quant_chunk (invOf dy) dy _ _) (quant_chunk (invOf dy) dy _ _)
    (quant_chunk (invOf dy) dy _ _) (quant_chunk (invOf dy) dy _ _) (quant_chunk (invOf dy) dy _ _) (quant_chunk (invOf dy) dy _ _)
    (quant_chunk (invOf dy) dy _ _) (quant_chunk (invOf dy) dy _ _)

theorem pay17_eq (a : IVec S8x128 32) (b : IVec S8x128 1) (k : BitVec 32) (x : Vec F S512x3072 .bf16) :
    k0_pay17 a b k x = quant (k0_pay16 (F := F) a b k) x := by unfold k0_pay17; exact shapeCast_self _ _
theorem pay18_eq (a : IVec S8x128 32) (b : IVec S8x128 1) (k : BitVec 32) (x : Vec F S512x3072 .bf16) :
    k0_pay18 a b k x = quant (k0_pay16 (F := F) a b k) x := by unfold k0_pay18; exact shapeCast_self _ _
theorem pay19_eq (v : F .f32) (x : Vec F S512x3072 .bf16) : k0_pay19 v x = quant v x := by unfold k0_pay19; exact shapeCast_self _ _
theorem pay20_eq (v : F .f32) (x : Vec F S512x3072 .bf16) : k0_pay20 v x = quant v x := by unfold k0_pay20; exact shapeCast_self _ _
theorem pay21_eq (v : F .f32) (x : Vec F S512x3072 .bf16) : k0_pay21 v x = quant v x := by unfold k0_pay21; exact shapeCast_self _ _
theorem pay23_eq (v : F .f32) (x : Vec F S512x3072 .bf16) : k0_pay23 (k0_pay22 v x) = quant v x := by
  unfold k0_pay23 k0_pay22; exact shapeCast_self _ _
theorem pay24_eq (v : F .f32) (x : Vec F S512x3072 .bf16) : k0_pay24 v x = quant v x := by unfold k0_pay24; exact shapeCast_self _ _
theorem pay25_eq (v : F .f32) (x : Vec F S512x3072 .bf16) : k0_pay25 v x = quant v x := by unfold k0_pay25; exact shapeCast_self _ _

theorem off2 : (![0, 0] : Fin 2 → ℕ) = fun _ => 0 := by decide

/-- A load of a whole buffer whose contents read `X`. -/
theorem readAt_whole {sp : Space} {S : Shape} {e : EltTy} (M : Memref sig .tc sp S e) {f : M.view.ty.Contents (Elt F)}
    {X : S.Idx → Elt F e} (h : M.view.read (Elt F) f = X) {off : Fin S.rank → ℕ} (h0 : off = fun _ => 0)
    (inb : ∀ a, off a + S.size a ≤ S.size a) :
    M.view.readAt (Elt F) (Rect.unit off S.size inb).toLoadRect f = X := by
  subst h; exact View.ld_unit_zero h0 inb _

/-- A store of a whole buffer. -/
theorem read_store {sp : Space} {S : Shape} {e : EltTy} (M : Memref sig .tc sp S e) (f : M.view.ty.Contents (Elt F))
    (w : S.Idx → Elt F e) {off : Fin S.rank → ℕ} (h0 : off = fun _ => 0) (inb : ∀ a, off a + S.size a ≤ S.size a) :
    M.view.read (Elt F) (M.view.writes (Elt F) f [⟨Rect.unit off S.size inb, w⟩]) = w := by
  rw [View.read_writes_eq_canon M.view f [⟨Rect.unit off S.size inb, w⟩]
    fun y => ⟨⟨Rect.unit off S.size inb, w⟩, List.mem_singleton_self _, View.mem_set_unit_zero h0 inb y⟩]
  exact View.canon_unit_zero h0 inb w

theorem writes_codes (g : Vec F S4096x3072 .fp8e5m2) {L : List (View.Piece (Elt F) S4096x3072 .fp8e5m2)} {C : Vec F S4096x3072 .fp8e5m2}
    (h : View.canon L = C ∧ ∀ y, ∃ p ∈ L, y ∈ p.1.set) : mCodes.view.writes (Elt F) g L = C := by
  rw [← h.1, ← View.read_writes_eq_canon mCodes.view g L h.2]; rfl

theorem writes_scale (g : Vec F S1 .f32) (v : F .f32) (inb : ∀ a, (![0] : Fin 1 → ℕ) a + S1.size a ≤ S1.size a) :
    mScale.view.writes (Elt F) g [⟨Rect.unit (s := S1) ![0] S1.size inb, fun _ => v⟩] = fun _ => v :=
  read_store mScale g (fun _ => v) (by decide) inb

/-! ## What the body holds between points -/

/-- The eight chunk semaphores at zero. -/
abbrev sems8 (c : Dev nD) : sProp 𝕄 :=
  iprop(semVal ((c : Thread nD τ), SemLoc.dma 8) 0 ∗ semVal ((c : Thread nD τ), SemLoc.dma 9) 0
        ∗ semVal ((c : Thread nD τ), SemLoc.dma 10) 0 ∗ semVal ((c : Thread nD τ), SemLoc.dma 11) 0
        ∗ semVal ((c : Thread nD τ), SemLoc.dma 12) 0 ∗ semVal ((c : Thread nD τ), SemLoc.dma 13) 0
        ∗ semVal ((c : Thread nD τ), SemLoc.dma 14) 0 ∗ semVal ((c : Thread nD τ), SemLoc.dma 15) 0)

/-- Between the first point and the last: the codes' buffer, one half kept and the other lent to the copy in flight. -/
abbrev flying (c : Dev nD) (dy : Vec F S4096x3072 .bf16) : sProp 𝕄 :=
  iprop((mCodes.view.loc (c : Thread nD τ) ↦{fullShare.left} codesOf dy)
    ∗ Transfers.Flight (countersEmb (U := Pipeline.UC sig nD τ)) (c : Thread nD τ) (SemLoc.dma 16) default 393216
        iprop((mOut.view.loc (c : Thread nD τ) ↦{fullShare} codesOf dy)
          ∗ (mCodes.view.loc (c : Thread nD τ) ↦[mCodes.view.set]{fullShare.right} codesOf dy))
    ∗ (mCodes.view.loc (c : Thread nD τ) ↦[Finset.univ \ mCodes.view.set]{fullShare.right} codesOf dy)
    ∗ pt c mScale (fun _ => scaleOf dy))

/-- The rest the body holds between points. -/
abbrev idleRest (c : Dev nD) (dy : Vec F S4096x3072 .bf16) : sProp 𝕄 :=
  iprop(pt c mDy dy ∗ (∃ g, pt (F := F) c mDyV g) ∗ sems8 c)

/-- The buffers and semaphore no copy uses before the first point. -/
abbrev fresh (c : Dev nD) : sProp 𝕄 :=
  iprop((∃ g, pt (F := F) c mOut g) ∗ (∃ g, pt (F := F) c mCodes g) ∗ (∃ g, pt (F := F) c mScale g)
    ∗ semVal ((c : Thread nD τ), SemLoc.dma 16) 0)

/-- What the last point leaves of them. -/
abbrev landed (c : Dev nD) (dy : Vec F S4096x3072 .bf16) : sProp 𝕄 :=
  iprop(pt c mOut (codesOf dy) ∗ (∃ g, pt (F := F) c mCodes g) ∗ (∃ g, pt (F := F) c mScale g)
    ∗ semVal ((c : Thread nD τ), SemLoc.dma 16) 0)

/-- The guard of the first point's work, and that of the last point's, as printed. -/
abbrev isLast (i : grid0.Coords) : Prop :=
  Scalar.cmpi .ne (Scalar.extui (Scalar.cmpi .eq (BitVec.ofNat 32 (i 0).val) 15#32) : BitVec 32) 0#32 = 1#1

section Runs

variable (c : Dev nD) (i : grid0.Coords) (arg1 : Memref sig .tc .smem S1x1 .f32) (h1 : arg1.IsWhole)
    (arg2 : Memref sig .tc .vmem S4096x256 .fp8e4m3) (h2 : arg2.IsWhole) (arg4 : Memref sig .tc .vmem S256x3072 .f32) (h4 : arg4.IsWhole)
    (arg5 : Memref sig .tc .vmem S256x3072 .f32) (h5 : arg5.IsWhole) (arg7 : Memref sig .tc .smem S1x1 .f32) (h7 : arg7.IsWhole)
    (dy : Vec F S4096x3072 .bf16) (x1 : Vec F S1x1 .f32) (x2 : Vec F S4096x256 .fp8e4m3) (x4 : Vec F S256x3072 .f32)
    (W : Waits sig Unit)

/-- The staged operands before the body, and after it. -/
abbrev stagedPre : sProp 𝕄 :=
  iprop(owns (c : Thread nD τ) arg1 fullShare x1 ∗ owns (c : Thread nD τ) arg2 fullShare x2 ∗ owns (c : Thread nD τ) arg4 fullShare x4
    ∗ (∃ d, owns (c : Thread nD τ) arg5 fullShare d))
abbrev stagedPost : sProp 𝕄 :=
  iprop(owns (c : Thread nD τ) arg1 fullShare x1 ∗ owns (c : Thread nD τ) arg2 fullShare x2 ∗ owns (c : Thread nD τ) arg4 fullShare x4
    ∗ owns (c : Thread nD τ) arg5 fullShare (outOf dy x2 x4 (x1 (Shape.Idx.first Nat.one_pos))))

set_option maxHeartbeats 1000000 in
/-- The first point: the gradient copied in, its scale and codes computed, the codes' copy out started, the first block done. -/
theorem run0 (K : PUnit → sProp 𝕄) (hi : k0_cond1 i = 1#1) (hv : ¬ isLast i) :
    iprop(stagedPre c arg1 arg2 arg4 arg5 x1 x2 x4 ∗ (∃ d, owns (c : Thread nD τ) arg7 fullShare d) ∗ idleRest c dy ∗ fresh (F := F) c
        ∗ owes (c : Thread nD τ) 0 W
        ∗ (iprop(stagedPost c arg1 arg2 arg4 arg5 dy x1 x2 x4 ∗ owns (c : Thread nD τ) arg7 fullShare (fun _ => scaleOf dy)
            ∗ idleRest c dy ∗ flying c dy ∗ (∃ W', owes (c : Thread nD τ) 0 W')) -∗ K ⟨⟩))
      ⊢ wp frame (wpE (defs₀ (F := F)) Variants.none c none) Set.univ (bodyOn i arg1 h1 arg2 h2 arg4 h4 arg5 h5 arg7 h7) K := by
  unfold bodyOn
  simp only [cc0_fp8_dw_eq_skeleton]
  unfold cc0_fp8_dw_skel
  sl_open_parts
  unfold stagedPre stagedPost owns
  iintro ⟨⟨⟨%f1, %e1, H1⟩, ⟨%f2, %e2, H2⟩, ⟨%f4, %e4, H4⟩, ⟨%d5, %f5, -, H5⟩⟩, ⟨%d7, %f7, -, H7⟩,
    ⟨HD, ⟨%g8, HDV⟩, ⟨Q0, Q1, Q2, Q3, Q4, Q5, Q6, Q7⟩⟩, ⟨⟨%g6, HOUT⟩, ⟨%g9, HC⟩, ⟨%g10, HS⟩, Q8⟩, HW, HK⟩
  set_option sl_exec.dmaWindow true in set_option sl_exec.lendShare "HC" in sl_exec
  have h55 : run0.sl.v55 (F := F) dy = chunk dy 0 _ := readCov_rows (F := F) dy rfl rfl rfl rfl rfl rfl rfl rfl _ _
  have h64 : run0.sl.v64 (F := F) dy = chunk dy 512 _ := readCov_rows (F := F) dy rfl rfl rfl rfl rfl rfl rfl rfl _ _
  have h73 : run0.sl.v73 (F := F) dy = chunk dy 1024 _ := readCov_rows (F := F) dy rfl rfl rfl rfl rfl rfl rfl rfl _ _
  have h82 : run0.sl.v82 (F := F) dy = chunk dy 1536 _ := readCov_rows (F := F) dy rfl rfl rfl rfl rfl rfl rfl rfl _ _
  have h91 : run0.sl.v91 (F := F) dy = chunk dy 2048 _ := readCov_rows (F := F) dy rfl rfl rfl rfl rfl rfl rfl rfl _ _
  have h100 : run0.sl.v100 (F := F) dy = chunk dy 2560 _ := readCov_rows (F := F) dy rfl rfl rfl rfl rfl rfl rfl rfl _ _
  have h109 : run0.sl.v109 (F := F) dy = chunk dy 3072 _ := readCov_rows (F := F) dy rfl rfl rfl rfl rfl rfl rfl rfl _ _
  have h118 : run0.sl.v118 (F := F) dy = chunk dy 3584 _ := readCov_rows (F := F) dy rfl rfl rfl rfl rfl rfl rfl rfl _ _
  have hs : run0.sl.r_1 (F := F) dy = scaleOf dy := by
    unfold run0.sl.r_1; rw [h55, h64, h73, h82, h91, h100, h109, h118]; unfold scaleOf amaxT ratioT partMax; rfl
  have hL := canon_codes (F := F) dy (L := run0.sl.HC_8 dy) (by
    unfold run0.sl.HC_8; rw [h55, h64, h73, h82, h91, h100, h109, h118]
    rw [pay25_eq, pay24_eq, pay23_eq, pay21_eq, pay20_eq, pay19_eq, pay18_eq, pay17_eq]
    unfold invOf amaxT ratioT partMax
    rfl)
  have hC : mCodes.view.writes (Elt F) g9 (run0.sl.HC_8 (F := F) dy) = codesOf dy := writes_codes g9 hL
  have h5v : run0.sl.v5 (F := F) dy = codesOf dy := by
    unfold run0.sl.v5; rw [View.readCov_eq_canon', hL.1]; exact View.ld_unit_zero (S := S4096x3072) (Val := Elt F) (e := .fp8e5m2) off2 inb_S4096x3072_S4096x3072_0_0 (codesOf dy)
  have h34 : View.write (Elt F) mOut.view g6 (run0.sl.dma34 (F := F) c dy g9) Finset.univ = codesOf dy := by
    unfold run0.sl.dma34; rw [hC]; exact View.write_whole_univ ..
  have h3 : run0.sl.r_3 (F := F) c arg1 f1 = x1 (Shape.Idx.first Nat.one_pos) := by
    unfold run0.sl.r_3; rw [readAt_whole arg1 e1 off2]
  have hs' := hs
  unfold run0.sl.r_1 at hs'
  rw [hC, h34, writes_scale, hs', hs, h3, h5v, readAt_whole arg2 e2 off2, readAt_whole arg4 e4 off2]
  sl_step
  iapply HK
  isplitl [H1 H2 H4 H5]
  · isplitl [H1]
    · iexists _; isplitr; swap; · iexact H1
      ipureintro; exact e1
    isplitl [H2]
    · iexists _; isplitr; swap; · iexact H2
      ipureintro; exact e2
    isplitl [H4]
    · iexists _; isplitr; swap; · iexact H4
      ipureintro; exact e4
    iexists _; isplitr; swap; · iexact H5
    ipureintro; exact read_store arg5 f5 _ off2 _
  isplitl [H7]
  · iexists _; isplitr; swap; · iexact H7
    ipureintro; exact read_store arg7 f7 _ off2 _
  isplitl [HD HDV Q0 Q1 Q2 Q3 Q4 Q5 Q6 Q7]
  · isplitl [HD]; · iexact HD
    isplitl [HDV]; · iexists _; iexact HDV
    isplitl [Q0]; · iexact Q0
    isplitl [Q1]; · iexact Q1
    isplitl [Q2]; · iexact Q2
    isplitl [Q3]; · iexact Q3
    isplitl [Q4]; · iexact Q4
    isplitl [Q5]; · iexact Q5
    isplitl [Q6]; · iexact Q6
    iexact Q7
  isplitl [HC Q8 HC_lend HS]
  · isplitl [HC]; · iexact HC
    isplitl [Q8]; · iexact Q8
    isplitl [HC_lend]; · iexact HC_lend
    iexact HS
  iexists _; iexact HW

/-- A point in between: its block done, the copy still in flight. -/
theorem runMid (K : PUnit → sProp 𝕄) (hi : ¬ k0_cond1 i = 1#1) (hv : ¬ isLast i) :
    iprop(stagedPre c arg1 arg2 arg4 arg5 x1 x2 x4 ∗ flying c dy
        ∗ owes (c : Thread nD τ) 0 W
        ∗ (iprop(stagedPost c arg1 arg2 arg4 arg5 dy x1 x2 x4
            ∗ flying c dy ∗ (∃ W', owes (c : Thread nD τ) 0 W')) -∗ K ⟨⟩))
      ⊢ wp frame (wpE (defs₀ (F := F)) Variants.none c none) Set.univ (bodyOn i arg1 h1 arg2 h2 arg4 h4 arg5 h5 arg7 h7) K := by
  unfold bodyOn
  simp only [cc0_fp8_dw_eq_skeleton]
  unfold cc0_fp8_dw_skel
  sl_open_parts
  unfold stagedPre stagedPost owns
  iintro ⟨⟨⟨%f1, %e1, H1⟩, ⟨%f2, %e2, H2⟩, ⟨%f4, %e4, H4⟩, ⟨%d5, %f5, -, H5⟩⟩, ⟨HC, Q8, HC_lend, HS⟩, HW, HK⟩
  set_option sl_exec.dmaWindow true in set_option sl_exec.lendShare "HC" in sl_exec
  have hc := readAt_whole (F := F) mCodes (f := codesOf dy) (X := codesOf dy) rfl off2 inb_S4096x3072_S4096x3072_0_0
  have h3 : runMid.sl.r (F := F) c arg1 f1 = x1 (Shape.Idx.first Nat.one_pos) := by
    unfold runMid.sl.r; rw [readAt_whole arg1 e1 off2]
  have hs : runMid.sl.r_1 (F := F) c dy = scaleOf dy := rfl
  rw [h3, hs, hc, readAt_whole arg2 e2 off2, readAt_whole arg4 e4 off2]
  sl_step
  iapply HK
  isplitl [H1 H2 H4 H5]
  · isplitl [H1]
    · iexists _; isplitr; swap; · iexact H1
      ipureintro; exact e1
    isplitl [H2]
    · iexists _; isplitr; swap; · iexact H2
      ipureintro; exact e2
    isplitl [H4]
    · iexists _; isplitr; swap; · iexact H4
      ipureintro; exact e4
    iexists _; isplitr; swap; · iexact H5
    ipureintro; exact read_store arg5 f5 _ off2 _
  isplitl [HC Q8 HC_lend HS]
  · isplitl [HC]; · iexact HC
    isplitl [Q8]; · iexact Q8
    isplitl [HC_lend]; · iexact HC_lend
    iexact HS
  iexists _; iexact HW

/-- The last point: its block done, the copy waited for. -/
theorem runLast (K : PUnit → sProp 𝕄) (hi : ¬ k0_cond1 i = 1#1) (hv : isLast i) :
    iprop(stagedPre c arg1 arg2 arg4 arg5 x1 x2 x4 ∗ flying c dy
        ∗ owes (c : Thread nD τ) 0 W
        ∗ (iprop(stagedPost c arg1 arg2 arg4 arg5 dy x1 x2 x4
            ∗ landed c dy ∗ (∃ W', owes (c : Thread nD τ) 0 W')) -∗ K ⟨⟩))
      ⊢ wp frame (wpE (defs₀ (F := F)) Variants.none c none) Set.univ (bodyOn i arg1 h1 arg2 h2 arg4 h4 arg5 h5 arg7 h7) K := by
  unfold bodyOn
  simp only [cc0_fp8_dw_eq_skeleton]
  unfold cc0_fp8_dw_skel
  sl_open_parts
  unfold stagedPre stagedPost owns
  iintro ⟨⟨⟨%f1, %e1, H1⟩, ⟨%f2, %e2, H2⟩, ⟨%f4, %e4, H4⟩, ⟨%d5, %f5, -, H5⟩⟩, ⟨HC, Q8, HC_lend, HS⟩, HW, HK⟩
  set_option sl_exec.dmaWindow true in set_option sl_exec.lendShare "HC" in sl_exec
  have hc := readAt_whole (F := F) mCodes (f := codesOf dy) (X := codesOf dy) rfl off2 inb_S4096x3072_S4096x3072_0_0
  have h3 : runLast.sl.r (F := F) c arg1 f1 = x1 (Shape.Idx.first Nat.one_pos) := by
    unfold runLast.sl.r; rw [readAt_whole arg1 e1 off2]
  have hs : runLast.sl.r_1 (F := F) c dy = scaleOf dy := rfl
  rw [h3, hs, hc, readAt_whole arg2 e2 off2, readAt_whole arg4 e4 off2]
  sl_step
  iapply HK
  isplitl [H1 H2 H4 H5]
  · isplitl [H1]
    · iexists _; isplitr; swap; · iexact H1
      ipureintro; exact e1
    isplitl [H2]
    · iexists _; isplitr; swap; · iexact H2
      ipureintro; exact e2
    isplitl [H4]
    · iexists _; isplitr; swap; · iexact H4
      ipureintro; exact e4
    iexists _; isplitr; swap; · iexact H5
    ipureintro; exact read_store arg5 f5 _ off2 _
  isplitl [Q8_dst HC HS Q8]
  · isplitl [Q8_dst]; · iexact Q8_dst
    isplitl [HC]; · iexists _; iexact HC
    isplitl [HS]; · iexists _; iexact HS
    iexact Q8
  iexists _; iexact HW

end Runs

/-! ## The proof data -/

variable (m : (ℓ : Loc nD τ sig) → Buf (Elt F) ℓ) (ρ : Dev nD → PrngReg)

theorem hmain (𝒱₀ : Variants) : Pipeline.HMain (Ix := Unit) (Name := ℕ) (U := Pipeline.UC sig nD τ) (Lvl := ℕ) cfgs 0 defs₀ 𝒱₀ m (main (F := F)) (V m) :=
  Pipeline.hmain_prefix cfgs 0 defs₀ 𝒱₀ m main hostOps0 hostOps0_sub hostOps0_fresh main_chain

/-- The gradient as the region finds it. -/
abbrev dyOf (c : Dev nD) : Vec F S4096x3072 .bf16 := V m c main_v2

/-- The kernel's own semaphores: the eight chunks', and the codes' copy's. -/
abbrev osem0 : Fin 9 → SemLoc sig := fun j =>
  (![SemLoc.dma 8, SemLoc.dma 9, SemLoc.dma 10, SemLoc.dma 11, SemLoc.dma 12, SemLoc.dma 13, SemLoc.dma 14, SemLoc.dma 15, SemLoc.dma 16] :
    Fin 9 → SemLoc sig) j
theorem ownSemFacts0 : Pipeline.OwnSemFacts spec0 osem0 := by decide
theorem ownSems00_eq (c : Dev nD) :
    (Pipeline.ownSems0 (Ix := Unit) (Name := ℕ) (U := Pipeline.UC sig nD τ) (Lvl := ℕ) (Val := Elt F) (τ := τ) osem0 c : sProp 𝕄)
      = iprop(semVal ((c : Thread nD τ), SemLoc.dma 8) 0 ∗ semVal ((c : Thread nD τ), SemLoc.dma 9) 0
        ∗ semVal ((c : Thread nD τ), SemLoc.dma 10) 0 ∗ semVal ((c : Thread nD τ), SemLoc.dma 11) 0
        ∗ semVal ((c : Thread nD τ), SemLoc.dma 12) 0 ∗ semVal ((c : Thread nD τ), SemLoc.dma 13) 0
        ∗ semVal ((c : Thread nD τ), SemLoc.dma 14) 0 ∗ semVal ((c : Thread nD τ), SemLoc.dma 15) 0
        ∗ semVal ((c : Thread nD τ), SemLoc.dma 16) 0) := by
  rw [Pipeline.ownSems0_eq_of_list c osem0 [0, 1, 2, 3, 4, 5, 6, 7, 8] (by decide) (by decide)]; rfl

/-- The buffers routed through the body: the gradient it reads in place and the codes it writes. -/
def R0 : Finset (Ref sig .tc) := {main_v2, main_v3_1}
theorem R0_sub : R0 ⊆ Pipeline.restRefs sig spec0 := by decide
theorem routed_eq (c : Dev nD) (Y : (b : Ref sig .tc) → Buf (Elt F) ((c.tc : Thread nD τ).loc b)) :
    (Pipeline.routed R0 c Y : sProp 𝕄) = iprop(pt c mDy (Y main_v2) ∗ pt c mOut (Y main_v3_1)) := by
  unfold Pipeline.routed; rw [BI.bigSep_eq_bigSepL_of_eq [main_v2, main_v3_1] (by decide) (by decide)]; rfl

/-- Their contents at the end. -/
def Y0 (c : Dev nD) (b : Ref sig .tc) : Buf (Elt F) ((c : Thread nD τ).loc b) :=
  Function.update (V m c) main_v3_1 (codesOf (dyOf m c)) b

theorem Ends_eq (c : Dev nD) (Y : (b : Ref sig .tc) → Buf (Elt F) ((c.tc : Thread nD τ).loc b)) :
    (Pipeline.Ends spec0 osem0 R0 c Y : sProp 𝕄)
      = iprop(iprop(pt c mDy (Y main_v2) ∗ pt c mOut (Y main_v3_1))
        ∗ iprop(semVal ((c : Thread nD τ), SemLoc.dma 8) 0 ∗ semVal ((c : Thread nD τ), SemLoc.dma 9) 0
        ∗ semVal ((c : Thread nD τ), SemLoc.dma 10) 0 ∗ semVal ((c : Thread nD τ), SemLoc.dma 11) 0
        ∗ semVal ((c : Thread nD τ), SemLoc.dma 12) 0 ∗ semVal ((c : Thread nD τ), SemLoc.dma 13) 0
        ∗ semVal ((c : Thread nD τ), SemLoc.dma 14) 0 ∗ semVal ((c : Thread nD τ), SemLoc.dma 15) 0
        ∗ semVal ((c : Thread nD τ), SemLoc.dma 16) 0)
        ∗ iprop((∃ f, pt (F := F) c mDyV f) ∗ (∃ f, pt (F := F) c mCodes f) ∗ (∃ f, pt (F := F) c mScale f)) ∗ ∃ r, prngReg c r) := by
  unfold Pipeline.Ends; rw [routed_eq, ownSems00_eq, scopedRest0_eq]

/-- The body's invariant before point `k`. -/
def Φ0 (c : Dev nD) (k : ℕ) : sProp 𝕄 :=
  iprop(idleRest c (dyOf m c) ∗ (if k = 0 then fresh (F := F) c else if k = 16 then landed c (dyOf m c) else flying c (dyOf m c))
    ∗ ∃ r, prngReg c r)

theorem Φ0_zero (c : Dev nD) : (Φ0 m c 0 : sProp 𝕄) = iprop(idleRest c (dyOf m c) ∗ fresh (F := F) c ∗ ∃ r, prngReg c r) := rfl
theorem Φ0_mid (c : Dev nD) (k : ℕ) (h0 : k ≠ 0) (h1 : k ≠ 16) :
    (Φ0 m c k : sProp 𝕄) = iprop(idleRest c (dyOf m c) ∗ flying c (dyOf m c) ∗ ∃ r, prngReg c r) := by
  unfold Φ0; rw [if_neg h0, if_neg h1]
theorem Φ0_end (c : Dev nD) : (Φ0 m c 16 : sProp 𝕄) = iprop(idleRest c (dyOf m c) ∗ landed c (dyOf m c) ∗ ∃ r, prngReg c r) := rfl

/-- The first result's block at point `t`. -/
def outAt (c : Dev nD) (t : Fin cfg0.N) : Vec F S256x3072 .f32 :=
  outOf (dyOf m c) (iblk m c 1 t) (iblk m c 2 t) (iblk m c 0 t (Shape.Idx.first Nat.one_pos))

/-- The proof data of the pipeline on core `c`. -/
def dats (_ : Fin 1) (c : Dev nD) : Dat τ (Elt F) Unit ℕ (Pipeline.UC sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outAt m c t
    | ⟨4, _⟩ => fun _ => scaleOf (dyOf m c)
  Φ k := Φ0 m c k.val
  q _ := fullShare
  owed _ := 0

theorem A_eq (c : Dev nD) (w : Fin cfg0.W) : (dats m 0 c).A w = V m c (Pipeline.arrRef spec0 w) := by
  dsimp only [dats]

theorem hin0 (c : Dev nD) : (Pipeline.Ends spec0 osem0 R0 c (V m c) : sProp 𝕄) ⊢ (dats m 0 c).Φ 0 := by
  rw [show (dats m 0 c).Φ 0 = Φ0 m c 0 from rfl, Φ0_zero, Ends_eq]
  iintro ⟨⟨HD, HO⟩, ⟨Q0, Q1, Q2, Q3, Q4, Q5, Q6, Q7, Q8⟩, ⟨HV, HC, HS⟩, Hg⟩
  isplitl [HD HV Q0 Q1 Q2 Q3 Q4 Q5 Q6 Q7]
  · isplitl [HD]; · iexact HD
    isplitl [HV]; · iexact HV
    isplitl [Q0]; · iexact Q0
    isplitl [Q1]; · iexact Q1
    isplitl [Q2]; · iexact Q2
    isplitl [Q3]; · iexact Q3
    isplitl [Q4]; · iexact Q4
    isplitl [Q5]; · iexact Q5
    isplitl [Q6]; · iexact Q6
    iexact Q7
  isplitl [HO HC HS Q8]
  · isplitl [HO]; · iexists _; iexact HO
    isplitl [HC]; · iexact HC
    isplitl [HS]; · iexact HS
    iexact Q8
  iexact Hg

theorem hout0 (c : Dev nD) : (dats m 0 c).Φ (Fin.last cfg0.N) ⊢ (Pipeline.Ends spec0 osem0 R0 c (Y0 m c) : sProp 𝕄) := by
  rw [show (dats m 0 c).Φ (Fin.last cfg0.N) = Φ0 m c 16 from rfl, Φ0_end, Ends_eq,
    show Y0 m c main_v2 = dyOf m c from Function.update_of_ne (by decide) _ _,
    show Y0 m c main_v3_1 = codesOf (dyOf m c) from Function.update_self _ _ _]
  iintro ⟨⟨HD, HV, ⟨Q0, Q1, Q2, Q3, Q4, Q5, Q6, Q7⟩⟩, ⟨HO, HC, HS, Q8⟩, Hg⟩
  isplitl [HD HO]
  · isplitl [HD]; · iexact HD
    iexact HO
  isplitl [Q0 Q1 Q2 Q3 Q4 Q5 Q6 Q7 Q8]
  · isplitl [Q0]; · iexact Q0
    isplitl [Q1]; · iexact Q1
    isplitl [Q2]; · iexact Q2
    isplitl [Q3]; · iexact Q3
    isplitl [Q4]; · iexact Q4
    isplitl [Q5]; · iexact Q5
    isplitl [Q6]; · iexact Q6
    isplitl [Q7]; · iexact Q7
    iexact Q8
  isplitl [HV HC HS]
  · isplitl [HV]; · iexact HV
    isplitl [HC]; · iexact HC
    iexact HS
  iexact Hg

/-! ## The body obligation -/

theorem first_iff : ∀ t : Fin cfg0.N, k0_cond1 (grid0.coords t) = 1#1 ↔ t.val = 0 :=
  (by decide +kernel : ∀ t : Fin grid0.N, k0_cond1 (grid0.coords t) = 1#1 ↔ t.val = 0)
theorem last_iff : ∀ t : Fin cfg0.N, isLast (grid0.coords t) ↔ t.val = 15 :=
  (by decide +kernel : ∀ t : Fin grid0.N, isLast (grid0.coords t) ↔ t.val = 15)
theorem idle_iff : ∀ t : Fin cfg0.N, cfg0.idle 4 (cfg0.grid.coords t) = decide (t.val ≠ 0) :=
  (by decide +kernel : ∀ t : Fin grid0.N, cfg0.idle 4 (cfg0.grid.coords t) = decide (t.val ≠ 0))
theorem flush_iff : ∀ t : Fin cfg0.N, (cfg0.win 4).flush t = decide (t.val = 15) :=
  fun t => by
    have h := flush0_4 t
    have ht : t.val < 16 := t.isLt
    have : (t.val % 16 = 15) = (t.val = 15) := by rw [Nat.mod_eq_of_lt ht]
    rw [this] at h
    exact Bool.eq_iff_iff.mpr (h.trans (by simp))
theorem fresh_iff : ∀ n : ℕ, n < 16 → n ≠ 0 → cfg0.fresh 4 n = false
  | 0, _, h => absurd rfl h
  | n + 1, h, _ => by
    have hn : n < cfg0.N := by show n < 16; omega
    rw [Cfg.fresh_succ cfg0 4 n hn, flush_iff, idle_iff]
    by_cases h0 : n = 0
    · subst h0; rfl
    · have : n ≠ 15 := by omega
      rw [fresh_iff n (by omega) h0]; simp [this]

theorem before4 (c : Dev nD) (t : Fin cfg0.N) (h : t.val ≠ 0) (d) : (dats m 0 c).before 4 t d = fun _ => scaleOf (dyOf m c) := by
  rw [Dat.before_out_traj (dat := dats m 0 c) 4 rfl (fun _ _ => rfl) (fun _ _ _ _ => rfl) t.val t rfl d, fresh_iff t.val t.isLt h]
  rfl

theorem before0 (c : Dev nD) (t : Fin cfg0.N) (d) : (dats m 0 c).before 0 t d = iblk m c 0 t :=
  ((dats m 0 c).before_in_eq_fetched 0 rfl (fun _ => rfl) (fun _ _ _ => rfl) (fun t => rfl) t d).trans rfl
theorem before1 (c : Dev nD) (t : Fin cfg0.N) (d) : (dats m 0 c).before 1 t d = iblk m c 1 t :=
  ((dats m 0 c).before_in_eq_fetched 1 rfl (fun _ => rfl) (fun _ _ _ => rfl) (fun t => rfl) t d).trans rfl
theorem before2 (c : Dev nD) (t : Fin cfg0.N) (d) : (dats m 0 c).before 2 t d = iblk m c 2 t :=
  ((dats m 0 c).before_in_eq_fetched 2 rfl (fun _ => rfl) (fun _ _ _ => rfl) (fun t => rfl) t d).trans rfl

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))
def bodyPost (c : Dev nD) (t : Fin cfg0.N) : sProp 𝕄 :=
  iprop((dats m 0 c).Φ t.succ ∗ (dats m 0 c).owesAt () t.succ
    ∗ owns (c : Thread nD τ) (st0_0 t) fullShare (iblk m c 0 t)
    ∗ owns (c : Thread nD τ) (st0_1 t) fullShare (iblk m c 1 t)
    ∗ owns (c : Thread nD τ) (st0_2 t) fullShare (iblk m c 2 t)
    ∗ owns (c : Thread nD τ) (st0_3 t) fullShare (outAt m c t)
    ∗ owns (c : Thread nD τ) (st0_4 t) fullShare (fun _ => scaleOf (dyOf m c)))

theorem sound_body (c : Dev nD) (t : Fin cfg0.N) :
    bodyPre m c t ⊢ wp frame (wpE (defs₀ (F := F)) Variants.none c none) Set.univ (bodyAt0 t) (fun _ => bodyPost m c t) := by
  unfold bodyPre bodyPost
  unfold Dat.owesAt Pipeline.owesWithin
  rw [show (dats m 0 c).owed t.castSucc = 0 from rfl, show (dats m 0 c).owed t.succ = 0 from rfl,
    show (dats m 0 c).Φ t.castSucc = Φ0 m c t.val from rfl, show (dats m 0 c).Φ t.succ = Φ0 m c (t.val + 1) from rfl]
  simp only [before0, before1, before2]
  have ht : t.val < 16 := t.isLt
  by_cases h0 : t.val = 0
  · rw [h0, Φ0_zero, Φ0_mid m c 1 (by decide) (by decide)]
    iintro ⟨⟨HR, HF, Hg⟩, ⟨%W, -, HW⟩, ⟨%d0, H0⟩, ⟨%d1, H1⟩, ⟨%d2, H2⟩, ⟨%d3, H3⟩, ⟨%d4, H4⟩⟩
    iapply (run0 c (grid0.coords t) (st0_0 t) _ (st0_1 t) _ (st0_2 t) _ (st0_3 t) _ (st0_4 t) _ (dyOf m c) (iblk m c 0 t) (iblk m c 1 t)
      (iblk m c 2 t) W _ ((first_iff t).mpr h0) (fun h => by have := (last_iff t).mp h; omega))
    isplitl [H0 H1 H2 H3]
    · isplitl [H0]; · iexact H0
      isplitl [H1]; · iexact H1
      isplitl [H2]; · iexact H2
      iexists _; iexact H3
    isplitl [H4]; · iexists _; iexact H4
    isplitl [HR]; · iexact HR
    isplitl [HF]; · iexact HF
    isplitl [HW]; · iexact HW
    iintro ⟨⟨H0, H1, H2, H3⟩, H4, HR, HF, ⟨%W', HW'⟩⟩
    isplitl [HR HF Hg]
    · isplitl [HR]; · iexact HR
      isplitl [HF]; · iexact HF
      iexact Hg
    isplitl [HW']
    · iexists W'; isplitr; · ipureintro; exact fun _ _ => Or.inl trivial
      iexact HW'
    isplitl [H0]; · iexact H0
    isplitl [H1]; · iexact H1
    isplitl [H2]; · iexact H2
    isplitl [H3]; · iexact H3
    iexact H4
  · simp only [before4 m c t h0]
    rw [Φ0_mid m c t.val h0 (by omega)]
    by_cases h1 : t.val = 15
    · rw [h1, show 15 + 1 = 16 from rfl, Φ0_end]
      iintro ⟨⟨HR, HF, Hg⟩, ⟨%W, -, HW⟩, ⟨%d0, H0⟩, ⟨%d1, H1⟩, ⟨%d2, H2⟩, ⟨%d3, H3⟩, ⟨%d4, H4⟩⟩
      iapply (runLast c (grid0.coords t) (st0_0 t) _ (st0_1 t) _ (st0_2 t) _ (st0_3 t) _ (st0_4 t) _ (dyOf m c) (iblk m c 0 t) (iblk m c 1 t)
        (iblk m c 2 t) W _ (fun h => h0 ((first_iff t).mp h)) ((last_iff t).mpr h1))
      isplitl [H0 H1 H2 H3]
      · isplitl [H0]; · iexact H0
        isplitl [H1]; · iexact H1
        isplitl [H2]; · iexact H2
        iexists _; iexact H3
      isplitl [HF]; · iexact HF
      isplitl [HW]; · iexact HW
      iintro ⟨⟨H0, H1, H2, H3⟩, HF, ⟨%W', HW'⟩⟩
      isplitl [HR HF Hg]
      · isplitl [HR]; · iexact HR
        isplitl [HF]; · iexact HF
        iexact Hg
      isplitl [HW']
      · iexists W'; isplitr; · ipureintro; exact fun _ _ => Or.inl trivial
        iexact HW'
      isplitl [H0]; · iexact H0
      isplitl [H1]; · iexact H1
      isplitl [H2]; · iexact H2
      isplitl [H3]; · iexact H3
      iexact H4
    · rw [Φ0_mid m c (t.val + 1) (by omega) (by omega)]
      iintro ⟨⟨HR, HF, Hg⟩, ⟨%W, -, HW⟩, ⟨%d0, H0⟩, ⟨%d1, H1⟩, ⟨%d2, H2⟩, ⟨%d3, H3⟩, ⟨%d4, H4⟩⟩
      iapply (runMid c (grid0.coords t) (st0_0 t) _ (st0_1 t) _ (st0_2 t) _ (st0_3 t) _ (st0_4 t) _ (dyOf m c) (iblk m c 0 t) (iblk m c 1 t)
        (iblk m c 2 t) W _ (fun h => h0 ((first_iff t).mp h)) (fun h => h1 ((last_iff t).mp h)))
      isplitl [H0 H1 H2 H3]
      · isplitl [H0]; · iexact H0
        isplitl [H1]; · iexact H1
        isplitl [H2]; · iexact H2
        iexists _; iexact H3
      isplitl [HF]; · iexact HF
      isplitl [HW]; · iexact HW
      iintro ⟨⟨H0, H1, H2, H3⟩, HF, ⟨%W', HW'⟩⟩
      isplitl [HR HF Hg]
      · isplitl [HR]; · iexact HR
        isplitl [HF]; · iexact HF
        iexact Hg
      isplitl [HW']
      · iexists W'; isplitr; · ipureintro; exact fun _ _ => Or.inl trivial
        iexact HW'
      isplitl [H0]; · iexact H0
      isplitl [H1]; · iexact H1
      isplitl [H2]; · iexact H2
      isplitl [H3]; · iexact H3
      iexact H4

theorem defs₀_row (t : Fin cfg0.N) :
    defs₀ (F := F) .tc cfg0.body (cfg0.bodyArgs t (cfg0.slots t)) = bodyAt0 t := by
  unfold defs₀; rw [Defs.onTc_tc]

theorem body_obligation (c : Dev nD) : Pipeline.BodyObligationLoose (dats (F := F) m 0 c) (defs₀ (F := F)) Variants.none () Set.univ := fun t => by
  rw [bigSep_W0, bigSep_W0, defs₀_row]
  refine triple_restated (sound_body m c t) rfl .rfl fun _ => ?_
  refine sep_mono_r (sep_mono_r (sep_mono_r (sep_mono_r (sep_mono_r (sep_mono_r ?_)))))
  rw [idle_iff, flush_iff]
  by_cases h0 : t.val = 0
  · rw [decide_eq_false (not_not.mpr h0)]; exact Idealize.SL.BI.Entails.refl _
  · rw [decide_eq_true h0]
    by_cases h1 : t.val = 15
    · rw [decide_eq_true h1]; exact Idealize.SL.BI.Entails.refl _
    · rw [decide_eq_false h1]
      simp only [before4 m c t h0]
      have H : (owns (c : Thread nD τ) (st0_4 t) fullShare (fun _ => scaleOf (dyOf m c)) : sProp 𝕄)
          ⊢ iprop(∃ _ : (cfg0.win 4).block.Idx → Elt F (cfg0.win 4).elt, owns (c : Thread nD τ) (st0_4 t) fullShare (fun _ => scaleOf (dyOf m c))) := by
        iintro H
        iexists (fun _ => scaleOf (dyOf m c)); iexact H
      exact H

/-! ## The run -/

set_option backward.isDefEq.respectTransparency.types false in
theorem run_main : θ_run defs (onTc (τ := τ) (main (F := F))) (s₀ m ρ)
    (fun r => Pipeline.RoutedPost cfgs (dats m) 0 R0 (V m) (Y0 m) r ∧ r.2.sem = fun _ => 0) :=
  Pipeline.θ_run_frame_routed cfgs (dats m) (0 : Fin 1) (kit := launch0) (osem := osem0) ownSemFacts0 defs₀ Variants.none m ρ main
    (hbody := fun c => body_obligation m c) (hshare := fun c => (dats m 0 c).share_full fun _ => rfl)
    (howed := fun _ _ => rfl) (V := V m) (hmain := hmain m Variants.none) (hA := A_eq m) (R := R0) (hR := R0_sub) (Y := Y0 m)
    (hin := hin0 m) (hout := hout0 m) (Q' := fun r => Pipeline.RoutedPost cfgs (dats m) 0 R0 (V m) (Y0 m) r ∧ r.2.sem = fun _ => 0)
    (hQ' := fun _ h => h)

theorem run_all : θ_run defs (onTc (τ := τ) (main (F := F))) ⟨m, fun _ => 0, ρ⟩ (fun r => (∀ c : Dev nD,
      r.2.mem ((c.tc : Thread nD τ).loc main_v3_0) = (dats m 0 c).arrAt 3 cfg0.N
      ∧ r.2.mem ((c.tc : Thread nD τ).loc main_v3_1) = codesOf (dyOf m c)
      ∧ r.2.mem ((c.tc : Thread nD τ).loc main_v3_2) = (dats m 0 c).arrAt 4 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => ⟨(h.1 c).1 3, ((h.1 c).2.1 main_v3_1 (by decide)).trans (Function.update_self _ _ _), (h.1 c).1 4,
      ((h.1 c).2.2 main_arg0 (Finset.mem_sdiff.mpr ⟨Pipeline.mem_restRefs_of main_arg0 (by decide) (by decide), by decide⟩)).trans (V_main_arg0 m c),
      ((h.1 c).2.2 main_arg1 (Finset.mem_sdiff.mpr ⟨Pipeline.mem_restRefs_of main_arg1 (by decide) (by decide), by decide⟩)).trans (V_main_arg1 m c),
      ((h.1 c).2.2 main_arg2 (Finset.mem_sdiff.mpr ⟨Pipeline.mem_restRefs_of main_arg2 (by decide) (by decide), by decide⟩)).trans (V_main_arg2 m c),
      ((h.1 c).1 2).trans (((dats m 0 c).arrAt_in 2 rfl _).trans ((A_eq m c 2).trans (V_main_arg3 m c)))⟩, h.2⟩) (run_main m ρ)

/-- The kernel runs, leaves its arguments as they were and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => (h.1 c).2.2.2, h.2⟩) (run_all m ρ)

end Cert.Kernel.Hand

end
-- ==== Proof.Body.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Frame
public import Idealize.ShloMosaic.Lib.Pipeline.FrameBody
public import Idealize.ShloMosaic.Lib.Pipeline.Routed
public import Idealize.ShloMosaic.Lib.Ring
public import Idealize.ShloMosaic.Lib.Tactic
public import Idealize.ShloMosaic.Lib.WordCmp
public import Idealize.ShloMosaic.Lib.Pipeline.Value
public import Idealize.ShloMosaic.Lib.Pipeline.TableIdle

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's resources: the pipeline library's beside the counters of the body's own transfers. -/
local notation "𝕄" => MT nD τ sig Unit (Elt F) ℕ (Pipeline.UC sig nD τ) ℕ

/-- The whole operands the pipeline does not stage: the gradient and the codes in HBM, their VMEM copies, the scale. -/
abbrev mDy : Memref sig .tc .hbm S4096x3072 .bf16 := Memref.whole main_v2
abbrev mOut : Memref sig .tc .hbm S4096x3072 .fp8e5m2 := Memref.whole main_v3_1
abbrev mDyV : Memref sig .tc .vmem S4096x3072 .bf16 := Memref.whole cc0_scratch0
abbrev mCodes : Memref sig .tc .vmem S4096x3072 .fp8e5m2 := Memref.whole cc0_scratch1
abbrev mScale : Memref sig .tc .smem S1 .f32 := Memref.whole cc0_scratch2

/-- A memref's buffer held whole at contents `f`. -/
abbrev pt (c : Dev nD) {sp : Space} {S : Shape} {e : EltTy} (M : Memref sig .tc sp S e)
    (f : Buf (Elt F) (M.view.loc (c : Thread nD τ))) : sProp 𝕄 :=
  M.view.loc (c : Thread nD τ) ↦{fullShare} f

/-- A memref's own elements held at share `q`. -/
abbrev ptAt (c : Dev nD) {sp : Space} {S : Shape} {e : EltTy} (M : Memref sig .tc sp S e) (q : PosShare TreeShare)
    (f : Buf (Elt F) (M.view.loc (c : Thread nD τ))) : sProp 𝕄 :=
  M.view.loc (c : Thread nD τ) ↦[M.view.set]{q} f

/-- The kernel at point `i` on its staging memrefs. -/
abbrev bodyOn (i : grid0.Coords) (arg1 : Memref sig .tc .smem S1x1 .f32) (h1 : arg1.IsWhole)
    (arg2 : Memref sig .tc .vmem S4096x256 .fp8e4m3) (h2 : arg2.IsWhole) (arg4 : Memref sig .tc .vmem S256x3072 .f32) (h4 : arg4.IsWhole)
    (arg5 : Memref sig .tc .vmem S256x3072 .f32) (h5 : arg5.IsWhole) (arg7 : Memref sig .tc .smem S1x1 .f32) (h7 : arg7.IsWhole) :
    Prog (TpuEff nD τ sig (Elt F) Λ₀ .tc) PUnit :=
  cc0_fp8_dw i arg1 h1 arg2 h2 mDy (Memref.isWhole_whole _) arg4 h4 arg5 h5 mOut (Memref.isWhole_whole _) arg7 h7
    mDyV (Memref.isWhole_whole _) mCodes (Memref.isWhole_whole _) mScale (Memref.isWhole_whole _) cc0_scratch3 cc0_scratch4

/-! ## The values, as functions of the gradient -/

/-- The 512 rows from row `k` up. -/
abbrev rowR (k : ℕ) (h : ∀ a, (![k, 0] : Fin 2 → ℕ) a + S512x3072.size a ≤ S4096x3072.size a) : Rect S4096x3072 :=
  Rect.unit (s := S4096x3072) ![k, 0] S512x3072.size h

/-- Rows `k` up of the gradient, a chunk: the block the kernel copies, reduces and quantises at once. -/
def chunk (dy : Vec F S4096x3072 .bf16) (k : ℕ) (h : ∀ a, (![k, 0] : Fin 2 → ℕ) a + S512x3072.size a ≤ S4096x3072.size a) :
    Vec F S512x3072 .bf16 :=
  fun y => dy ((rowR k h).emb y)

/-- The running absolute maximum after five of the eight chunks. -/
def partMax (dy : Vec F S4096x3072 .bf16) : FVec F S16x3072 .bf16 :=
  k0_pay3 (k0_pay2 (chunk dy 0 inb_S4096x3072_S512x3072_0_0) (chunk dy 512 inb_S4096x3072_S512x3072_512_0))
    (chunk dy 1024 inb_S4096x3072_S512x3072_1024_0) (chunk dy 1536 inb_S4096x3072_S512x3072_1536_0)
    (chunk dy 2048 inb_S4096x3072_S512x3072_2048_0)

/-- The absolute maximum of the whole gradient, broadcast over a tile. -/
def amaxT (dy : Vec F S4096x3072 .bf16) : FVec F S8x128 .f32 :=
  k0_pay4 (partMax dy) (chunk dy 2560 inb_S4096x3072_S512x3072_2560_0) (chunk dy 3072 inb_S4096x3072_S512x3072_3072_0)
    (chunk dy 3584 inb_S4096x3072_S512x3072_3584_0)

/-- The maximum over the format's largest value: what the scale's exponent is read from. -/
def ratioT (dy : Vec F S4096x3072 .bf16) : FVec F S8x128 .f32 :=
  k0_pay5 (partMax dy) (chunk dy 2560 inb_S4096x3072_S512x3072_2560_0) (chunk dy 3072 inb_S4096x3072_S512x3072_3072_0)
    (chunk dy 3584 inb_S4096x3072_S512x3072_3584_0)

/-- The scale. -/
def scaleOf (dy : Vec F S4096x3072 .bf16) : F .f32 :=
  k0_pay15 (k0_pay12 (amaxT dy) (ratioT dy) (k0_pay8 (ratioT dy) k0_pay6 k0_pay7) (k0_pay9 (ratioT dy) k0_pay6 k0_pay7)
    (k0_pay10 (ratioT dy) k0_pay6 k0_pay7))

/-- The scale's reciprocal. -/
def invOf (dy : Vec F S4096x3072 .bf16) : F .f32 :=
  k0_pay16
    (k0_pay13 (amaxT dy) (ratioT dy) (k0_pay8 (ratioT dy) k0_pay6 k0_pay7) (k0_pay9 (ratioT dy) k0_pay6 k0_pay7)
      (k0_pay10 (ratioT dy) k0_pay6 k0_pay7))
    (k0_pay14 (amaxT dy) (ratioT dy) (k0_pay8 (ratioT dy) k0_pay6 k0_pay7) (k0_pay9 (ratioT dy) k0_pay6 k0_pay7)
      (k0_pay10 (ratioT dy) k0_pay6 k0_pay7)) 255#32

/-- Elements scaled by `inv`, clamped to the format's range and rounded to it. -/
def quant {S : Shape} (inv : F .f32) (x : FVec F S .bf16) : FVec F S .fp8e5m2 :=
  truncf .fp8e5m2 (minimumf (broadcast S (Scalar.ofBits .f32 0x47600000#32)) (maximumf (broadcast S (Scalar.ofBits .f32 0xC7600000#32))
    (mulf (extf .f32 x bitsLt_bf16_f32) (broadcast S inv)))) bitsLt_fp8e5m2_f32

/-- The codes of the whole gradient. -/
def codesOf (dy : Vec F S4096x3072 .bf16) : FVec F S4096x3072 .fp8e5m2 := quant (invOf dy) dy

/-- A result block: the accumulator's rows plus the scaled product of the codes. -/
def outOf (dy : Vec F S4096x3072 .bf16) (x : Vec F S4096x256 .fp8e4m3) (acc : Vec F S256x3072 .f32) (xs : F .f32) : FVec F S256x3072 .f32 :=
  k0_pay1 x (codesOf dy) acc xs (scaleOf dy)

theorem rows_cover {e : EltTy} {Val : EltTy → Type} {w0 w1 w2 w3 w4 w5 w6 w7} (y : S4096x3072.Idx) :
    ∃ p ∈ ([⟨rowR 3584 inb_S4096x3072_S512x3072_3584_0, w7⟩,
      ⟨rowR 3072 inb_S4096x3072_S512x3072_3072_0, w6⟩,
      ⟨rowR 2560 inb_S4096x3072_S512x3072_2560_0, w5⟩,
      ⟨rowR 2048 inb_S4096x3072_S512x3072_2048_0, w4⟩,
      ⟨rowR 1536 inb_S4096x3072_S512x3072_1536_0, w3⟩,
      ⟨rowR 1024 inb_S4096x3072_S512x3072_1024_0, w2⟩,
      ⟨rowR 512 inb_S4096x3072_S512x3072_512_0, w1⟩,
      ⟨rowR 0 inb_S4096x3072_S512x3072_0_0, w0⟩] : List (View.Piece Val S4096x3072 e)), y ∈ p.1.set :=
  View.cover_of_tiledL (s := S4096x3072) _ S512x3072.size (by sl_kernel_rfl) y

/-- Eight row blocks written from one function leave the function. -/
theorem canon_rows {e : EltTy} {Val : EltTy → Type} [∀ e, Nonempty (Val e)] (G : S4096x3072.Idx → Val e) {w0 w1 w2 w3 w4 w5 w6 w7}
    (e0 : w0 = fun y => G ((rowR 0 inb_S4096x3072_S512x3072_0_0).emb y))
    (e1 : w1 = fun y => G ((rowR 512 inb_S4096x3072_S512x3072_512_0).emb y))
    (e2 : w2 = fun y => G ((rowR 1024 inb_S4096x3072_S512x3072_1024_0).emb y))
    (e3 : w3 = fun y => G ((rowR 1536 inb_S4096x3072_S512x3072_1536_0).emb y))
    (e4 : w4 = fun y => G ((rowR 2048 inb_S4096x3072_S512x3072_2048_0).emb y))
    (e5 : w5 = fun y => G ((rowR 2560 inb_S4096x3072_S512x3072_2560_0).emb y))
    (e6 : w6 = fun y => G ((rowR 3072 inb_S4096x3072_S512x3072_3072_0).emb y))
    (e7 : w7 = fun y => G ((rowR 3584 inb_S4096x3072_S512x3072_3584_0).emb y)) :
    View.canon ([⟨rowR 3584 inb_S4096x3072_S512x3072_3584_0, w7⟩,
      ⟨rowR 3072 inb_S4096x3072_S512x3072_3072_0, w6⟩,
      ⟨rowR 2560 inb_S4096x3072_S512x3072_2560_0, w5⟩,
      ⟨rowR 2048 inb_S4096x3072_S512x3072_2048_0, w4⟩,
      ⟨rowR 1536 inb_S4096x3072_S512x3072_1536_0, w3⟩,
      ⟨rowR 1024 inb_S4096x3072_S512x3072_1024_0, w2⟩,
      ⟨rowR 512 inb_S4096x3072_S512x3072_512_0, w1⟩,
      ⟨rowR 0 inb_S4096x3072_S512x3072_0_0, w0⟩] : List (View.Piece Val S4096x3072 e)) = G := by
  subst e0 e1 e2 e3 e4 e5 e6 e7
  funext y
  refine View.canon_apply_of_pieces G _ ?_ y (rows_cover y)
  intro p hp
  simp only [List.mem_cons, List.not_mem_nil, or_false] at hp
  rcases hp with rfl | rfl | rfl | rfl | rfl | rfl | rfl | rfl <;> exact fun _ => rfl

/-- A load of a chunk from the copy the eight transfers landed. -/
theorem readCov_rows (dy : Vec F S4096x3072 .bf16) {w0 w1 w2 w3 w4 w5 w6 w7 : S512x3072.Idx → Elt F .bf16}
    (e0 : w0 = chunk dy 0 inb_S4096x3072_S512x3072_0_0) (e1 : w1 = chunk dy 512 inb_S4096x3072_S512x3072_512_0)
    (e2 : w2 = chunk dy 1024 inb_S4096x3072_S512x3072_1024_0) (e3 : w3 = chunk dy 1536 inb_S4096x3072_S512x3072_1536_0)
    (e4 : w4 = chunk dy 2048 inb_S4096x3072_S512x3072_2048_0) (e5 : w5 = chunk dy 2560 inb_S4096x3072_S512x3072_2560_0)
    (e6 : w6 = chunk dy 3072 inb_S4096x3072_S512x3072_3072_0) (e7 : w7 = chunk dy 3584 inb_S4096x3072_S512x3072_3584_0) (k : ℕ)
    (h : ∀ a, (![k, 0] : Fin 2 → ℕ) a + S512x3072.size a ≤ S4096x3072.size a) :
    mDyV.view.readCov (Val := Elt F) [⟨rowR 3584 inb_S4096x3072_S512x3072_3584_0, w7⟩,
      ⟨rowR 3072 inb_S4096x3072_S512x3072_3072_0, w6⟩, ⟨rowR 2560 inb_S4096x3072_S512x3072_2560_0, w5⟩,
      ⟨rowR 2048 inb_S4096x3072_S512x3072_2048_0, w4⟩, ⟨rowR 1536 inb_S4096x3072_S512x3072_1536_0, w3⟩,
      ⟨rowR 1024 inb_S4096x3072_S512x3072_1024_0, w2⟩, ⟨rowR 512 inb_S4096x3072_S512x3072_512_0, w1⟩,
      ⟨rowR 0 inb_S4096x3072_S512x3072_0_0, w0⟩] (rowR k h).toLoadRect = chunk dy k h := by
  rw [View.readCov_eq_canon', canon_rows (Val := Elt F) dy e0 e1 e2 e3 e4 e5 e6 e7]
  rfl

theorem quant_chunk (inv : F .f32) (dy : Vec F S4096x3072 .bf16) (k : ℕ) (h) :
    quant inv (chunk dy k h) = fun y => quant inv dy ((rowR k h).emb y) := rfl

/-- The codes' eight stores leave the codes. -/
theorem canon_codes (dy : Vec F S4096x3072 .bf16) {L : List (View.Piece (Elt F) S4096x3072 .fp8e5m2)}
    (h : L = [⟨rowR 3584 inb_S4096x3072_S512x3072_3584_0, quant (invOf dy) (chunk dy 3584 inb_S4096x3072_S512x3072_3584_0)⟩,
      ⟨rowR 3072 inb_S4096x3072_S512x3072_3072_0, quant (invOf dy) (chunk dy 3072 inb_S4096x3072_S512x3072_3072_0)⟩,
      ⟨rowR 2560 inb_S4096x3072_S512x3072_2560_0, quant (invOf dy) (chunk dy 2560 inb_S4096x3072_S512x3072_2560_0)⟩,
      ⟨rowR 2048 inb_S4096x3072_S512x3072_2048_0, quant (invOf dy) (chunk dy 2048 inb_S4096x3072_S512x3072_2048_0)⟩,
      ⟨rowR 1536 inb_S4096x3072_S512x3072_1536_0, quant (invOf dy) (chunk dy 1536 inb_S4096x3072_S512x3072_1536_0)⟩,
      ⟨rowR 1024 inb_S4096x3072_S512x3072_1024_0, quant (invOf dy) (chunk dy 1024 inb_S4096x3072_S512x3072_1024_0)⟩,
      ⟨rowR 512 inb_S4096x3072_S512x3072_512_0, quant (invOf dy) (chunk dy 512 inb_S4096x3072_S512x3072_512_0)⟩,
      ⟨rowR 0 inb_S4096x3072_S512x3072_0_0, quant (invOf dy) (chunk dy 0 inb_S4096x3072_S512x3072_0_0)⟩]) :
    View.canon L = codesOf dy ∧ ∀ y, ∃ p ∈ L, y ∈ p.1.set := by
  subst h
  refine ⟨?_, fun y => rows_cover y⟩
  exact canon_rows (Val := Elt F) (e := .fp8e5m2) (codesOf dy) (quant_chunk (invOf dy) dy _ _) (quant_chunk (invOf dy) dy _ _)
    (quant_chunk (invOf dy) dy _ _) (quant_chunk (invOf dy) dy _ _) (quant_chunk (invOf dy) dy _ _) (quant_chunk (invOf dy) dy _ _)
    (quant_chunk (invOf dy) dy _ _) (quant_chunk (invOf dy) dy _ _)

theorem pay17_eq (a : IVec S8x128 32) (b : IVec S8x128 1) (k : BitVec 32) (x : Vec F S512x3072 .bf16) :
    k0_pay17 a b k x = quant (k0_pay16 (F := F) a b k) x := by unfold k0_pay17; exact shapeCast_self _ _
theorem pay18_eq (a : IVec S8x128 32) (b : IVec S8x128 1) (k : BitVec 32) (x : Vec F S512x3072 .bf16) :
    k0_pay18 a b k x = quant (k0_pay16 (F := F) a b k) x := by unfold k0_pay18; exact shapeCast_self _ _
theorem pay19_eq (v : F .f32) (x : Vec F S512x3072 .bf16) : k0_pay19 v x = quant v x := by unfold k0_pay19; exact shapeCast_self _ _
theorem pay20_eq (v : F .f32) (x : Vec F S512x3072 .bf16) : k0_pay20 v x = quant v x := by unfold k0_pay20; exact shapeCast_self _ _
theorem pay21_eq (v : F .f32) (x : Vec F S512x3072 .bf16) : k0_pay21 v x = quant v x := by unfold k0_pay21; exact shapeCast_self _ _
theorem pay23_eq (v : F .f32) (x : Vec F S512x3072 .bf16) : k0_pay23 (k0_pay22 v x) = quant v x := by
  unfold k0_pay23 k0_pay22; exact shapeCast_self _ _
theorem pay24_eq (v : F .f32) (x : Vec F S512x3072 .bf16) : k0_pay24 v x = quant v x := by unfold k0_pay24; exact shapeCast_self _ _
theorem pay25_eq (v : F .f32) (x : Vec F S512x3072 .bf16) : k0_pay25 v x = quant v x := by unfold k0_pay25; exact shapeCast_self _ _

theorem off2 : (![0, 0] : Fin 2 → ℕ) = fun _ => 0 := by decide

/-- A load of a whole buffer whose contents read `X`. -/
theorem readAt_whole {sp : Space} {S : Shape} {e : EltTy} (M : Memref sig .tc sp S e) {f : M.view.ty.Contents (Elt F)}
    {X : S.Idx → Elt F e} (h : M.view.read (Elt F) f = X) {off : Fin S.rank → ℕ} (h0 : off = fun _ => 0)
    (inb : ∀ a, off a + S.size a ≤ S.size a) :
    M.view.readAt (Elt F) (Rect.unit off S.size inb).toLoadRect f = X := by
  subst h; exact View.ld_unit_zero h0 inb _

/-- A store of a whole buffer. -/
theorem read_store {sp : Space} {S : Shape} {e : EltTy} (M : Memref sig .tc sp S e) (f : M.view.ty.Contents (Elt F))
    (w : S.Idx → Elt F e) {off : Fin S.rank → ℕ} (h0 : off = fun _ => 0) (inb : ∀ a, off a + S.size a ≤ S.size a) :
    M.view.read (Elt F) (M.view.writes (Elt F) f [⟨Rect.unit off S.size inb, w⟩]) = w := by
  rw [View.read_writes_eq_canon M.view f [⟨Rect.unit off S.size inb, w⟩]
    fun y => ⟨⟨Rect.unit off S.size inb, w⟩, List.mem_singleton_self _, View.mem_set_unit_zero h0 inb y⟩]
  exact View.canon_unit_zero h0 inb w

theorem writes_codes (g : Vec F S4096x3072 .fp8e5m2) {L : List (View.Piece (Elt F) S4096x3072 .fp8e5m2)} {C : Vec F S4096x3072 .fp8e5m2}
    (h : View.canon L = C ∧ ∀ y, ∃ p ∈ L, y ∈ p.1.set) : mCodes.view.writes (Elt F) g L = C := by
  rw [← h.1, ← View.read_writes_eq_canon mCodes.view g L h.2]; rfl

theorem writes_scale (g : Vec F S1 .f32) (v : F .f32) (inb : ∀ a, (![0] : Fin 1 → ℕ) a + S1.size a ≤ S1.size a) :
    mScale.view.writes (Elt F) g [⟨Rect.unit (s := S1) ![0] S1.size inb, fun _ => v⟩] = fun _ => v :=
  read_store mScale g (fun _ => v) (by decide) inb

/-! ## What the body holds between points -/

/-- The eight chunk semaphores at zero. -/
abbrev sems8 (c : Dev nD) : sProp 𝕄 :=
  iprop(semVal ((c : Thread nD τ), SemLoc.dma 8) 0 ∗ semVal ((c : Thread nD τ), SemLoc.dma 9) 0
        ∗ semVal ((c : Thread nD τ), SemLoc.dma 10) 0 ∗ semVal ((c : Thread nD τ), SemLoc.dma 11) 0
        ∗ semVal ((c : Thread nD τ), SemLoc.dma 12) 0 ∗ semVal ((c : Thread nD τ), SemLoc.dma 13) 0
        ∗ semVal ((c : Thread nD τ), SemLoc.dma 14) 0 ∗ semVal ((c : Thread nD τ), SemLoc.dma 15) 0)

/-- Between the first point and the last: the codes' buffer, one half kept and the other lent to the copy in flight. -/
abbrev flying (c : Dev nD) (dy : Vec F S4096x3072 .bf16) : sProp 𝕄 :=
  iprop((mCodes.view.loc (c : Thread nD τ) ↦{fullShare.left} codesOf dy)
    ∗ Transfers.Flight (countersEmb (U := Pipeline.UC sig nD τ)) (c : Thread nD τ) (SemLoc.dma 16) default 393216
        iprop((mOut.view.loc (c : Thread nD τ) ↦{fullShare} codesOf dy)
          ∗ (mCodes.view.loc (c : Thread nD τ) ↦[mCodes.view.set]{fullShare.right} codesOf dy))
    ∗ (mCodes.view.loc (c : Thread nD τ) ↦[Finset.univ \ mCodes.view.set]{fullShare.right} codesOf dy)
    ∗ pt c mScale (fun _ => scaleOf dy))

/-- The rest the body holds between points. -/
abbrev idleRest (c : Dev nD) (dy : Vec F S4096x3072 .bf16) : sProp 𝕄 :=
  iprop(pt c mDy dy ∗ (∃ g, pt (F := F) c mDyV g) ∗ sems8 c)

/-- The buffers and semaphore no copy uses before the first point. -/
abbrev fresh (c : Dev nD) : sProp 𝕄 :=
  iprop((∃ g, pt (F := F) c mOut g) ∗ (∃ g, pt (F := F) c mCodes g) ∗ (∃ g, pt (F := F) c mScale g)
    ∗ semVal ((c : Thread nD τ), SemLoc.dma 16) 0)

/-- What the last point leaves of them. -/
abbrev landed (c : Dev nD) (dy : Vec F S4096x3072 .bf16) : sProp 𝕄 :=
  iprop(pt c mOut (codesOf dy) ∗ (∃ g, pt (F := F) c mCodes g) ∗ (∃ g, pt (F := F) c mScale g)
    ∗ semVal ((c : Thread nD τ), SemLoc.dma 16) 0)

/-- The guard of the first point's work, and that of the last point's, as printed. -/
abbrev isLast (i : grid0.Coords) : Prop :=
  Scalar.cmpi .ne (Scalar.extui (Scalar.cmpi .eq (BitVec.ofNat 32 (i 0).val) 15#32) : BitVec 32) 0#32 = 1#1

section Runs

variable (c : Dev nD) (i : grid0.Coords) (arg1 : Memref sig .tc .smem S1x1 .f32) (h1 : arg1.IsWhole)
    (arg2 : Memref sig .tc .vmem S4096x256 .fp8e4m3) (h2 : arg2.IsWhole) (arg4 : Memref sig .tc .vmem S256x3072 .f32) (h4 : arg4.IsWhole)
    (arg5 : Memref sig .tc .vmem S256x3072 .f32) (h5 : arg5.IsWhole) (arg7 : Memref sig .tc .smem S1x1 .f32) (h7 : arg7.IsWhole)
    (dy : Vec F S4096x3072 .bf16) (x1 : Vec F S1x1 .f32) (x2 : Vec F S4096x256 .fp8e4m3) (x4 : Vec F S256x3072 .f32)
    (W : Waits sig Unit)

/-- The staged operands before the body, and after it. -/
abbrev stagedPre : sProp 𝕄 :=
  iprop(owns (c : Thread nD τ) arg1 fullShare x1 ∗ owns (c : Thread nD τ) arg2 fullShare x2 ∗ owns (c : Thread nD τ) arg4 fullShare x4
    ∗ (∃ d, owns (c : Thread nD τ) arg5 fullShare d))
abbrev stagedPost : sProp 𝕄 :=
  iprop(owns (c : Thread nD τ) arg1 fullShare x1 ∗ owns (c : Thread nD τ) arg2 fullShare x2 ∗ owns (c : Thread nD τ) arg4 fullShare x4
    ∗ owns (c : Thread nD τ) arg5 fullShare (outOf dy x2 x4 (x1 (Shape.Idx.first Nat.one_pos))))

set_option maxHeartbeats 1000000 in
/-- The first point: the gradient copied in, its scale and codes computed, the codes' copy out started, the first block done. -/
theorem run0 (K : PUnit → sProp 𝕄) (hi : k0_cond1 i = 1#1) (hv : ¬ isLast i) :
    iprop(stagedPre c arg1 arg2 arg4 arg5 x1 x2 x4 ∗ (∃ d, owns (c : Thread nD τ) arg7 fullShare d) ∗ idleRest c dy ∗ fresh (F := F) c
        ∗ owes (c : Thread nD τ) 0 W
        ∗ (iprop(stagedPost c arg1 arg2 arg4 arg5 dy x1 x2 x4 ∗ owns (c : Thread nD τ) arg7 fullShare (fun _ => scaleOf dy)
            ∗ idleRest c dy ∗ flying c dy ∗ (∃ W', owes (c : Thread nD τ) 0 W')) -∗ K ⟨⟩))
      ⊢ wp frame (wpE (defs₀ (F := F)) Variants.none c none) Set.univ (bodyOn i arg1 h1 arg2 h2 arg4 h4 arg5 h5 arg7 h7) K := by
  unfold bodyOn
  simp only [cc0_fp8_dw_eq_skeleton]
  unfold cc0_fp8_dw_skel
  sl_open_parts
  unfold stagedPre stagedPost owns
  iintro ⟨⟨⟨%f1, %e1, H1⟩, ⟨%f2, %e2, H2⟩, ⟨%f4, %e4, H4⟩, ⟨%d5, %f5, -, H5⟩⟩, ⟨%d7, %f7, -, H7⟩,
    ⟨HD, ⟨%g8, HDV⟩, ⟨Q0, Q1, Q2, Q3, Q4, Q5, Q6, Q7⟩⟩, ⟨⟨%g6, HOUT⟩, ⟨%g9, HC⟩, ⟨%g10, HS⟩, Q8⟩, HW, HK⟩
  set_option sl_exec.dmaWindow true in set_option sl_exec.lendShare "HC" in sl_exec
  have h55 : run0.sl.v55 (F := F) dy = chunk dy 0 _ := readCov_rows (F := F) dy rfl rfl rfl rfl rfl rfl rfl rfl _ _
  have h64 : run0.sl.v64 (F := F) dy = chunk dy 512 _ := readCov_rows (F := F) dy rfl rfl rfl rfl rfl rfl rfl rfl _ _
  have h73 : run0.sl.v73 (F := F) dy = chunk dy 1024 _ := readCov_rows (F := F) dy rfl rfl rfl rfl rfl rfl rfl rfl _ _
  have h82 : run0.sl.v82 (F := F) dy = chunk dy 1536 _ := readCov_rows (F := F) dy rfl rfl rfl rfl rfl rfl rfl rfl _ _
  have h91 : run0.sl.v91 (F := F) dy = chunk dy 2048 _ := readCov_rows (F := F) dy rfl rfl rfl rfl rfl rfl rfl rfl _ _
  have h100 : run0.sl.v100 (F := F) dy = chunk dy 2560 _ := readCov_rows (F := F) dy rfl rfl rfl rfl rfl rfl rfl rfl _ _
  have h109 : run0.sl.v109 (F := F) dy = chunk dy 3072 _ := readCov_rows (F := F) dy rfl rfl rfl rfl rfl rfl rfl rfl _ _
  have h118 : run0.sl.v118 (F := F) dy = chunk dy 3584 _ := readCov_rows (F := F) dy rfl rfl rfl rfl rfl rfl rfl rfl _ _
  have hs : run0.sl.r_1 (F := F) dy = scaleOf dy := by
    unfold run0.sl.r_1; rw [h55, h64, h73, h82, h91, h100, h109, h118]; unfold scaleOf amaxT ratioT partMax; rfl
  have hL := canon_codes (F := F) dy (L := run0.sl.HC_8 dy) (by
    unfold run0.sl.HC_8; rw [h55, h64, h73, h82, h91, h100, h109, h118]
    rw [pay25_eq, pay24_eq, pay23_eq, pay21_eq, pay20_eq, pay19_eq, pay18_eq, pay17_eq]
    unfold invOf amaxT ratioT partMax
    rfl)
  have hC : mCodes.view.writes (Elt F) g9 (run0.sl.HC_8 (F := F) dy) = codesOf dy := writes_codes g9 hL
  have h5v : run0.sl.v5 (F := F) dy = codesOf dy := by
    unfold run0.sl.v5; rw [View.readCov_eq_canon', hL.1]; exact View.ld_unit_zero (S := S4096x3072) (Val := Elt F) (e := .fp8e5m2) off2 inb_S4096x3072_S4096x3072_0_0 (codesOf dy)
  have h34 : View.write (Elt F) mOut.view g6 (run0.sl.dma34 (F := F) c dy g9) Finset.univ = codesOf dy := by
    unfold run0.sl.dma34; rw [hC]; exact View.write_whole_univ ..
  have h3 : run0.sl.r_3 (F := F) c arg1 f1 = x1 (Shape.Idx.first Nat.one_pos) := by
    unfold run0.sl.r_3; rw [readAt_whole arg1 e1 off2]
  have hs' := hs
  unfold run0.sl.r_1 at hs'
  rw [hC, h34, writes_scale, hs', hs, h3, h5v, readAt_whole arg2 e2 off2, readAt_whole arg4 e4 off2]
  sl_step
  iapply HK
  isplitl [H1 H2 H4 H5]
  · isplitl [H1]
    · iexists _; isplitr; swap; · iexact H1
      ipureintro; exact e1
    isplitl [H2]
    · iexists _; isplitr; swap; · iexact H2
      ipureintro; exact e2
    isplitl [H4]
    · iexists _; isplitr; swap; · iexact H4
      ipureintro; exact e4
    iexists _; isplitr; swap; · iexact H5
    ipureintro; exact read_store arg5 f5 _ off2 _
  isplitl [H7]
  · iexists _; isplitr; swap; · iexact H7
    ipureintro; exact read_store arg7 f7 _ off2 _
  isplitl [HD HDV Q0 Q1 Q2 Q3 Q4 Q5 Q6 Q7]
  · isplitl [HD]; · iexact HD
    isplitl [HDV]; · iexists _; iexact HDV
    isplitl [Q0]; · iexact Q0
    isplitl [Q1]; · iexact Q1
    isplitl [Q2]; · iexact Q2
    isplitl [Q3]; · iexact Q3
    isplitl [Q4]; · iexact Q4
    isplitl [Q5]; · iexact Q5
    isplitl [Q6]; · iexact Q6
    iexact Q7
  isplitl [HC Q8 HC_lend HS]
  · isplitl [HC]; · iexact HC
    isplitl [Q8]; · iexact Q8
    isplitl [HC_lend]; · iexact HC_lend
    iexact HS
  iexists _; iexact HW

/-- A point in between: its block done, the copy still in flight. -/
theorem runMid (K : PUnit → sProp 𝕄) (hi : ¬ k0_cond1 i = 1#1) (hv : ¬ isLast i) :
    iprop(stagedPre c arg1 arg2 arg4 arg5 x1 x2 x4 ∗ flying c dy
        ∗ owes (c : Thread nD τ) 0 W
        ∗ (iprop(stagedPost c arg1 arg2 arg4 arg5 dy x1 x2 x4
            ∗ flying c dy ∗ (∃ W', owes (c : Thread nD τ) 0 W')) -∗ K ⟨⟩))
      ⊢ wp frame (wpE (defs₀ (F := F)) Variants.none c none) Set.univ (bodyOn i arg1 h1 arg2 h2 arg4 h4 arg5 h5 arg7 h7) K := by
  unfold bodyOn
  simp only [cc0_fp8_dw_eq_skeleton]
  unfold cc0_fp8_dw_skel
  sl_open_parts
  unfold stagedPre stagedPost owns
  iintro ⟨⟨⟨%f1, %e1, H1⟩, ⟨%f2, %e2, H2⟩, ⟨%f4, %e4, H4⟩, ⟨%d5, %f5, -, H5⟩⟩, ⟨HC, Q8, HC_lend, HS⟩, HW, HK⟩
  set_option sl_exec.dmaWindow true in set_option sl_exec.lendShare "HC" in sl_exec
  have hc := readAt_whole (F := F) mCodes (f := codesOf dy) (X := codesOf dy) rfl off2 inb_S4096x3072_S4096x3072_0_0
  have h3 : runMid.sl.r (F := F) c arg1 f1 = x1 (Shape.Idx.first Nat.one_pos) := by
    unfold runMid.sl.r; rw [readAt_whole arg1 e1 off2]
  have hs : runMid.sl.r_1 (F := F) c dy = scaleOf dy := rfl
  rw [h3, hs, hc, readAt_whole arg2 e2 off2, readAt_whole arg4 e4 off2]
  sl_step
  iapply HK
  isplitl [H1 H2 H4 H5]
  · isplitl [H1]
    · iexists _; isplitr; swap; · iexact H1
      ipureintro; exact e1
    isplitl [H2]
    · iexists _; isplitr; swap; · iexact H2
      ipureintro; exact e2
    isplitl [H4]
    · iexists _; isplitr; swap; · iexact H4
      ipureintro; exact e4
    iexists _; isplitr; swap; · iexact H5
    ipureintro; exact read_store arg5 f5 _ off2 _
  isplitl [HC Q8 HC_lend HS]
  · isplitl [HC]; · iexact HC
    isplitl [Q8]; · iexact Q8
    isplitl [HC_lend]; · iexact HC_lend
    iexact HS
  iexists _; iexact HW

/-- The last point: its block done, the copy waited for. -/
theorem runLast (K : PUnit → sProp 𝕄) (hi : ¬ k0_cond1 i = 1#1) (hv : isLast i) :
    iprop(stagedPre c arg1 arg2 arg4 arg5 x1 x2 x4 ∗ flying c dy
        ∗ owes (c : Thread nD τ) 0 W
        ∗ (iprop(stagedPost c arg1 arg2 arg4 arg5 dy x1 x2 x4
            ∗ landed c dy ∗ (∃ W', owes (c : Thread nD τ) 0 W')) -∗ K ⟨⟩))
      ⊢ wp frame (wpE (defs₀ (F := F)) Variants.none c none) Set.univ (bodyOn i arg1 h1 arg2 h2 arg4 h4 arg5 h5 arg7 h7) K := by
  unfold bodyOn
  simp only [cc0_fp8_dw_eq_skeleton]
  unfold cc0_fp8_dw_skel
  sl_open_parts
  unfold stagedPre stagedPost owns
  iintro ⟨⟨⟨%f1, %e1, H1⟩, ⟨%f2, %e2, H2⟩, ⟨%f4, %e4, H4⟩, ⟨%d5, %f5, -, H5⟩⟩, ⟨HC, Q8, HC_lend, HS⟩, HW, HK⟩
  set_option sl_exec.dmaWindow true in set_option sl_exec.lendShare "HC" in sl_exec
  have hc := readAt_whole (F := F) mCodes (f := codesOf dy) (X := codesOf dy) rfl off2 inb_S4096x3072_S4096x3072_0_0
  have h3 : runLast.sl.r (F := F) c arg1 f1 = x1 (Shape.Idx.first Nat.one_pos) := by
    unfold runLast.sl.r; rw [readAt_whole arg1 e1 off2]
  have hs : runLast.sl.r_1 (F := F) c dy = scaleOf dy := rfl
  rw [h3, hs, hc, readAt_whole arg2 e2 off2, readAt_whole arg4 e4 off2]
  sl_step
  iapply HK
  isplitl [H1 H2 H4 H5]
  · isplitl [H1]
    · iexists _; isplitr; swap; · iexact H1
      ipureintro; exact e1
    isplitl [H2]
    · iexists _; isplitr; swap; · iexact H2
      ipureintro; exact e2
    isplitl [H4]
    · iexists _; isplitr; swap; · iexact H4
      ipureintro; exact e4
    iexists _; isplitr; swap; · iexact H5
    ipureintro; exact read_store arg5 f5 _ off2 _
  isplitl [Q8_dst HC HS Q8]
  · isplitl [Q8_dst]; · iexact Q8_dst
    isplitl [HC]; · iexists _; iexact HC
    isplitl [HS]; · iexists _; iexact HS
    iexact Q8
  iexists _; iexact HW

end Runs

/-! ## The proof data -/

variable (m : (ℓ : Loc nD τ sig) → Buf (Elt F) ℓ) (ρ : Dev nD → PrngReg)

theorem hmain (𝒱₀ : Variants) : Pipeline.HMain (Ix := Unit) (Name := ℕ) (U := Pipeline.UC sig nD τ) (Lvl := ℕ) cfgs 0 defs₀ 𝒱₀ m (main (F := F)) (V m) :=
  Pipeline.hmain_prefix cfgs 0 defs₀ 𝒱₀ m main hostOps0 hostOps0_sub hostOps0_fresh main_chain

/-- The gradient as the region finds it. -/
abbrev dyOf (c : Dev nD) : Vec F S4096x3072 .bf16 := V m c main_v2

/-- The kernel's own semaphores: the eight chunks', and the codes' copy's. -/
abbrev osem0 : Fin 9 → SemLoc sig := fun j =>
  (![SemLoc.dma 8, SemLoc.dma 9, SemLoc.dma 10, SemLoc.dma 11, SemLoc.dma 12, SemLoc.dma 13, SemLoc.dma 14, SemLoc.dma 15, SemLoc.dma 16] :
    Fin 9 → SemLoc sig) j
theorem ownSemFacts0 : Pipeline.OwnSemFacts spec0 osem0 := by decide
theorem ownSems00_eq (c : Dev nD) :
    (Pipeline.ownSems0 (Ix := Unit) (Name := ℕ) (U := Pipeline.UC sig nD τ) (Lvl := ℕ) (Val := Elt F) (τ := τ) osem0 c : sProp 𝕄)
      = iprop(semVal ((c : Thread nD τ), SemLoc.dma 8) 0 ∗ semVal ((c : Thread nD τ), SemLoc.dma 9) 0
        ∗ semVal ((c : Thread nD τ), SemLoc.dma 10) 0 ∗ semVal ((c : Thread nD τ), SemLoc.dma 11) 0
        ∗ semVal ((c : Thread nD τ), SemLoc.dma 12) 0 ∗ semVal ((c : Thread nD τ), SemLoc.dma 13) 0
        ∗ semVal ((c : Thread nD τ), SemLoc.dma 14) 0 ∗ semVal ((c : Thread nD τ), SemLoc.dma 15) 0
        ∗ semVal ((c : Thread nD τ), SemLoc.dma 16) 0) := by
  rw [Pipeline.ownSems0_eq_of_list c osem0 [0, 1, 2, 3, 4, 5, 6, 7, 8] (by decide) (by decide)]; rfl

/-- The buffers routed through the body: the gradient it reads in place and the codes it writes. -/
def R0 : Finset (Ref sig .tc) := {main_v2, main_v3_1}
theorem R0_sub : R0 ⊆ Pipeline.restRefs sig spec0 := by decide
theorem routed_eq (c : Dev nD) (Y : (b : Ref sig .tc) → Buf (Elt F) ((c.tc : Thread nD τ).loc b)) :
    (Pipeline.routed R0 c Y : sProp 𝕄) = iprop(pt c mDy (Y main_v2) ∗ pt c mOut (Y main_v3_1)) := by
  unfold Pipeline.routed; rw [BI.bigSep_eq_bigSepL_of_eq [main_v2, main_v3_1] (by decide) (by decide)]; rfl

/-- Their contents at the end. -/
def Y0 (c : Dev nD) (b : Ref sig .tc) : Buf (Elt F) ((c : Thread nD τ).loc b) :=
  Function.update (V m c) main_v3_1 (codesOf (dyOf m c)) b

theorem Ends_eq (c : Dev nD) (Y : (b : Ref sig .tc) → Buf (Elt F) ((c.tc : Thread nD τ).loc b)) :
    (Pipeline.Ends spec0 osem0 R0 c Y : sProp 𝕄)
      = iprop(iprop(pt c mDy (Y main_v2) ∗ pt c mOut (Y main_v3_1))
        ∗ iprop(semVal ((c : Thread nD τ), SemLoc.dma 8) 0 ∗ semVal ((c : Thread nD τ), SemLoc.dma 9) 0
        ∗ semVal ((c : Thread nD τ), SemLoc.dma 10) 0 ∗ semVal ((c : Thread nD τ), SemLoc.dma 11) 0
        ∗ semVal ((c : Thread nD τ), SemLoc.dma 12) 0 ∗ semVal ((c : Thread nD τ), SemLoc.dma 13) 0
        ∗ semVal ((c : Thread nD τ), SemLoc.dma 14) 0 ∗ semVal ((c : Thread nD τ), SemLoc.dma 15) 0
        ∗ semVal ((c : Thread nD τ), SemLoc.dma 16) 0)
        ∗ iprop((∃ f, pt (F := F) c mDyV f) ∗ (∃ f, pt (F := F) c mCodes f) ∗ (∃ f, pt (F := F) c mScale f)) ∗ ∃ r, prngReg c r) := by
  unfold Pipeline.Ends; rw [routed_eq, ownSems00_eq, scopedRest0_eq]

/-- The body's invariant before point `k`. -/
def Φ0 (c : Dev nD) (k : ℕ) : sProp 𝕄 :=
  iprop(idleRest c (dyOf m c) ∗ (if k = 0 then fresh (F := F) c else if k = 16 then landed c (dyOf m c) else flying c (dyOf m c))
    ∗ ∃ r, prngReg c r)

theorem Φ0_zero (c : Dev nD) : (Φ0 m c 0 : sProp 𝕄) = iprop(idleRest c (dyOf m c) ∗ fresh (F := F) c ∗ ∃ r, prngReg c r) := rfl
theorem Φ0_mid (c : Dev nD) (k : ℕ) (h0 : k ≠ 0) (h1 : k ≠ 16) :
    (Φ0 m c k : sProp 𝕄) = iprop(idleRest c (dyOf m c) ∗ flying c (dyOf m c) ∗ ∃ r, prngReg c r) := by
  unfold Φ0; rw [if_neg h0, if_neg h1]
theorem Φ0_end (c : Dev nD) : (Φ0 m c 16 : sProp 𝕄) = iprop(idleRest c (dyOf m c) ∗ landed c (dyOf m c) ∗ ∃ r, prngReg c r) := rfl

/-- The first result's block at point `t`. -/
def outAt (c : Dev nD) (t : Fin cfg0.N) : Vec F S256x3072 .f32 :=
  outOf (dyOf m c) (iblk m c 1 t) (iblk m c 2 t) (iblk m c 0 t (Shape.Idx.first Nat.one_pos))

/-- The proof data of the pipeline on core `c`. -/
def dats (_ : Fin 1) (c : Dev nD) : Dat τ (Elt F) Unit ℕ (Pipeline.UC sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outAt m c t
    | ⟨4, _⟩ => fun _ => scaleOf (dyOf m c)
  Φ k := Φ0 m c k.val
  q _ := fullShare
  owed _ := 0

theorem A_eq (c : Dev nD) (w : Fin cfg0.W) : (dats m 0 c).A w = V m c (Pipeline.arrRef spec0 w) := by
  dsimp only [dats]

theorem hin0 (c : Dev nD) : (Pipeline.Ends spec0 osem0 R0 c (V m c) : sProp 𝕄) ⊢ (dats m 0 c).Φ 0 := by
  rw [show (dats m 0 c).Φ 0 = Φ0 m c 0 from rfl, Φ0_zero, Ends_eq]
  iintro ⟨⟨HD, HO⟩, ⟨Q0, Q1, Q2, Q3, Q4, Q5, Q6, Q7, Q8⟩, ⟨HV, HC, HS⟩, Hg⟩
  isplitl [HD HV Q0 Q1 Q2 Q3 Q4 Q5 Q6 Q7]
  · isplitl [HD]; · iexact HD
    isplitl [HV]; · iexact HV
    isplitl [Q0]; · iexact Q0
    isplitl [Q1]; · iexact Q1
    isplitl [Q2]; · iexact Q2
    isplitl [Q3]; · iexact Q3
    isplitl [Q4]; · iexact Q4
    isplitl [Q5]; · iexact Q5
    isplitl [Q6]; · iexact Q6
    iexact Q7
  isplitl [HO HC HS Q8]
  · isplitl [HO]; · iexists _; iexact HO
    isplitl [HC]; · iexact HC
    isplitl [HS]; · iexact HS
    iexact Q8
  iexact Hg

theorem hout0 (c : Dev nD) : (dats m 0 c).Φ (Fin.last cfg0.N) ⊢ (Pipeline.Ends spec0 osem0 R0 c (Y0 m c) : sProp 𝕄) := by
  rw [show (dats m 0 c).Φ (Fin.last cfg0.N) = Φ0 m c 16 from rfl, Φ0_end, Ends_eq,
    show Y0 m c main_v2 = dyOf m c from Function.update_of_ne (by decide) _ _,
    show Y0 m c main_v3_1 = codesOf (dyOf m c) from Function.update_self _ _ _]
  iintro ⟨⟨HD, HV, ⟨Q0, Q1, Q2, Q3, Q4, Q5, Q6, Q7⟩⟩, ⟨HO, HC, HS, Q8⟩, Hg⟩
  isplitl [HD HO]
  · isplitl [HD]; · iexact HD
    iexact HO
  isplitl [Q0 Q1 Q2 Q3 Q4 Q5 Q6 Q7 Q8]
  · isplitl [Q0]; · iexact Q0
    isplitl [Q1]; · iexact Q1
    isplitl [Q2]; · iexact Q2
    isplitl [Q3]; · iexact Q3
    isplitl [Q4]; · iexact Q4
    isplitl [Q5]; · iexact Q5
    isplitl [Q6]; · iexact Q6
    isplitl [Q7]; · iexact Q7
    iexact Q8
  isplitl [HV HC HS]
  · isplitl [HV]; · iexact HV
    isplitl [HC]; · iexact HC
    iexact HS
  iexact Hg

/-! ## The body obligation -/

theorem first_iff : ∀ t : Fin cfg0.N, k0_cond1 (grid0.coords t) = 1#1 ↔ t.val = 0 :=
  (by decide +kernel : ∀ t : Fin grid0.N, k0_cond1 (grid0.coords t) = 1#1 ↔ t.val = 0)
theorem last_iff : ∀ t : Fin cfg0.N, isLast (grid0.coords t) ↔ t.val = 15 :=
  (by decide +kernel : ∀ t : Fin grid0.N, isLast (grid0.coords t) ↔ t.val = 15)
theorem idle_iff : ∀ t : Fin cfg0.N, cfg0.idle 4 (cfg0.grid.coords t) = decide (t.val ≠ 0) :=
  (by decide +kernel : ∀ t : Fin grid0.N, cfg0.idle 4 (cfg0.grid.coords t) = decide (t.val ≠ 0))
theorem flush_iff : ∀ t : Fin cfg0.N, (cfg0.win 4).flush t = decide (t.val = 15) :=
  fun t => by
    have h := flush0_4 t
    have ht : t.val < 16 := t.isLt
    have : (t.val % 16 = 15) = (t.val = 15) := by rw [Nat.mod_eq_of_lt ht]
    rw [this] at h
    exact Bool.eq_iff_iff.mpr (h.trans (by simp))
theorem fresh_iff : ∀ n : ℕ, n < 16 → n ≠ 0 → cfg0.fresh 4 n = false
  | 0, _, h => absurd rfl h
  | n + 1, h, _ => by
    have hn : n < cfg0.N := by show n < 16; omega
    rw [Cfg.fresh_succ cfg0 4 n hn, flush_iff, idle_iff]
    by_cases h0 : n = 0
    · subst h0; rfl
    · have : n ≠ 15 := by omega
      rw [fresh_iff n (by omega) h0]; simp [this]

theorem before4 (c : Dev nD) (t : Fin cfg0.N) (h : t.val ≠ 0) (d) : (dats m 0 c).before 4 t d = fun _ => scaleOf (dyOf m c) := by
  rw [Dat.before_out_traj (dat := dats m 0 c) 4 rfl (fun _ _ => rfl) (fun _ _ _ _ => rfl) t.val t rfl d, fresh_iff t.val t.isLt h]
  rfl

theorem before0 (c : Dev nD) (t : Fin cfg0.N) (d) : (dats m 0 c).before 0 t d = iblk m c 0 t :=
  ((dats m 0 c).before_in_eq_fetched 0 rfl (fun _ => rfl) (fun _ _ _ => rfl) (fun t => rfl) t d).trans rfl
theorem before1 (c : Dev nD) (t : Fin cfg0.N) (d) : (dats m 0 c).before 1 t d = iblk m c 1 t :=
  ((dats m 0 c).before_in_eq_fetched 1 rfl (fun _ => rfl) (fun _ _ _ => rfl) (fun t => rfl) t d).trans rfl
theorem before2 (c : Dev nD) (t : Fin cfg0.N) (d) : (dats m 0 c).before 2 t d = iblk m c 2 t :=
  ((dats m 0 c).before_in_eq_fetched 2 rfl (fun _ => rfl) (fun _ _ _ => rfl) (fun t => rfl) t d).trans rfl

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))
def bodyPost (c : Dev nD) (t : Fin cfg0.N) : sProp 𝕄 :=
  iprop((dats m 0 c).Φ t.succ ∗ (dats m 0 c).owesAt () t.succ
    ∗ owns (c : Thread nD τ) (st0_0 t) fullShare (iblk m c 0 t)
    ∗ owns (c : Thread nD τ) (st0_1 t) fullShare (iblk m c 1 t)
    ∗ owns (c : Thread nD τ) (st0_2 t) fullShare (iblk m c 2 t)
    ∗ owns (c : Thread nD τ) (st0_3 t) fullShare (outAt m c t)
    ∗ owns (c : Thread nD τ) (st0_4 t) fullShare (fun _ => scaleOf (dyOf m c)))

theorem sound_body (c : Dev nD) (t : Fin cfg0.N) :
    bodyPre m c t ⊢ wp frame (wpE (defs₀ (F := F)) Variants.none c none) Set.univ (bodyAt0 t) (fun _ => bodyPost m c t) := by
  unfold bodyPre bodyPost
  unfold Dat.owesAt Pipeline.owesWithin
  rw [show (dats m 0 c).owed t.castSucc = 0 from rfl, show (dats m 0 c).owed t.succ = 0 from rfl,
    show (dats m 0 c).Φ t.castSucc = Φ0 m c t.val from rfl, show (dats m 0 c).Φ t.succ = Φ0 m c (t.val + 1) from rfl]
  simp only [before0, before1, before2]
  have ht : t.val < 16 := t.isLt
  by_cases h0 : t.val = 0
  · rw [h0, Φ0_zero, Φ0_mid m c 1 (by decide) (by decide)]
    iintro ⟨⟨HR, HF, Hg⟩, ⟨%W, -, HW⟩, ⟨%d0, H0⟩, ⟨%d1, H1⟩, ⟨%d2, H2⟩, ⟨%d3, H3⟩, ⟨%d4, H4⟩⟩
    iapply (run0 c (grid0.coords t) (st0_0 t) _ (st0_1 t) _ (st0_2 t) _ (st0_3 t) _ (st0_4 t) _ (dyOf m c) (iblk m c 0 t) (iblk m c 1 t)
      (iblk m c 2 t) W _ ((first_iff t).mpr h0) (fun h => by have := (last_iff t).mp h; omega))
    isplitl [H0 H1 H2 H3]
    · isplitl [H0]; · iexact H0
      isplitl [H1]; · iexact H1
      isplitl [H2]; · iexact H2
      iexists _; iexact H3
    isplitl [H4]; · iexists _; iexact H4
    isplitl [HR]; · iexact HR
    isplitl [HF]; · iexact HF
    isplitl [HW]; · iexact HW
    iintro ⟨⟨H0, H1, H2, H3⟩, H4, HR, HF, ⟨%W', HW'⟩⟩
    isplitl [HR HF Hg]
    · isplitl [HR]; · iexact HR
      isplitl [HF]; · iexact HF
      iexact Hg
    isplitl [HW']
    · iexists W'; isplitr; · ipureintro; exact fun _ _ => Or.inl trivial
      iexact HW'
    isplitl [H0]; · iexact H0
    isplitl [H1]; · iexact H1
    isplitl [H2]; · iexact H2
    isplitl [H3]; · iexact H3
    iexact H4
  · simp only [before4 m c t h0]
    rw [Φ0_mid m c t.val h0 (by omega)]
    by_cases h1 : t.val = 15
    · rw [h1, show 15 + 1 = 16 from rfl, Φ0_end]
      iintro ⟨⟨HR, HF, Hg⟩, ⟨%W, -, HW⟩, ⟨%d0, H0⟩, ⟨%d1, H1⟩, ⟨%d2, H2⟩, ⟨%d3, H3⟩, ⟨%d4, H4⟩⟩
      iapply (runLast c (grid0.coords t) (st0_0 t) _ (st0_1 t) _ (st0_2 t) _ (st0_3 t) _ (st0_4 t) _ (dyOf m c) (iblk m c 0 t) (iblk m c 1 t)
        (iblk m c 2 t) W _ (fun h => h0 ((first_iff t).mp h)) ((last_iff t).mpr h1))
      isplitl [H0 H1 H2 H3]
      · isplitl [H0]; · iexact H0
        isplitl [H1]; · iexact H1
        isplitl [H2]; · iexact H2
        iexists _; iexact H3
      isplitl [HF]; · iexact HF
      isplitl [HW]; · iexact HW
      iintro ⟨⟨H0, H1, H2, H3⟩, HF, ⟨%W', HW'⟩⟩
      isplitl [HR HF Hg]
      · isplitl [HR]; · iexact HR
        isplitl [HF]; · iexact HF
        iexact Hg
      isplitl [HW']
      · iexists W'; isplitr; · ipureintro; exact fun _ _ => Or.inl trivial
        iexact HW'
      isplitl [H0]; · iexact H0
      isplitl [H1]; · iexact H1
      isplitl [H2]; · iexact H2
      isplitl [H3]; · iexact H3
      iexact H4
    · rw [Φ0_mid m c (t.val + 1) (by omega) (by omega)]
      iintro ⟨⟨HR, HF, Hg⟩, ⟨%W, -, HW⟩, ⟨%d0, H0⟩, ⟨%d1, H1⟩, ⟨%d2, H2⟩, ⟨%d3, H3⟩, ⟨%d4, H4⟩⟩
      iapply (runMid c (grid0.coords t) (st0_0 t) _ (st0_1 t) _ (st0_2 t) _ (st0_3 t) _ (st0_4 t) _ (dyOf m c) (iblk m c 0 t) (iblk m c 1 t)
        (iblk m c 2 t) W _ (fun h => h0 ((first_iff t).mp h)) (fun h => h1 ((last_iff t).mp h)))
      isplitl [H0 H1 H2 H3]
      · isplitl [H0]; · iexact H0
        isplitl [H1]; · iexact H1
        isplitl [H2]; · iexact H2
        iexists _; iexact H3
      isplitl [HF]; · iexact HF
      isplitl [HW]; · iexact HW
      iintro ⟨⟨H0, H1, H2, H3⟩, HF, ⟨%W', HW'⟩⟩
      isplitl [HR HF Hg]
      · isplitl [HR]; · iexact HR
        isplitl [HF]; · iexact HF
        iexact Hg
      isplitl [HW']
      · iexists W'; isplitr; · ipureintro; exact fun _ _ => Or.inl trivial
        iexact HW'
      isplitl [H0]; · iexact H0
      isplitl [H1]; · iexact H1
      isplitl [H2]; · iexact H2
      isplitl [H3]; · iexact H3
      iexact H4

theorem defs₀_row (t : Fin cfg0.N) :
    defs₀ (F := F) .tc cfg0.body (cfg0.bodyArgs t (cfg0.slots t)) = bodyAt0 t := by
  unfold defs₀; rw [Defs.onTc_tc]

theorem body_obligation (c : Dev nD) : Pipeline.BodyObligationLoose (dats (F := F) m 0 c) (defs₀ (F := F)) Variants.none () Set.univ := fun t => by
  rw [bigSep_W0, bigSep_W0, defs₀_row]
  refine triple_restated (sound_body m c t) rfl .rfl fun _ => ?_
  refine sep_mono_r (sep_mono_r (sep_mono_r (sep_mono_r (sep_mono_r (sep_mono_r ?_)))))
  rw [idle_iff, flush_iff]
  by_cases h0 : t.val = 0
  · rw [decide_eq_false (not_not.mpr h0)]; exact Idealize.SL.BI.Entails.refl _
  · rw [decide_eq_true h0]
    by_cases h1 : t.val = 15
    · rw [decide_eq_true h1]; exact Idealize.SL.BI.Entails.refl _
    · rw [decide_eq_false h1]
      simp only [before4 m c t h0]
      have H : (owns (c : Thread nD τ) (st0_4 t) fullShare (fun _ => scaleOf (dyOf m c)) : sProp 𝕄)
          ⊢ iprop(∃ _ : (cfg0.win 4).block.Idx → Elt F (cfg0.win 4).elt, owns (c : Thread nD τ) (st0_4 t) fullShare (fun _ => scaleOf (dyOf m c))) := by
        iintro H
        iexists (fun _ => scaleOf (dyOf m c)); iexact H
      exact H

/-! ## The run -/

set_option backward.isDefEq.respectTransparency.types false in
theorem run_main : θ_run defs (onTc (τ := τ) (main (F := F))) (s₀ m ρ)
    (fun r => Pipeline.RoutedPost cfgs (dats m) 0 R0 (V m) (Y0 m) r ∧ r.2.sem = fun _ => 0) :=
  Pipeline.θ_run_frame_routed cfgs (dats m) (0 : Fin 1) (kit := launch0) (osem := osem0) ownSemFacts0 defs₀ Variants.none m ρ main
    (hbody := fun c => body_obligation m c) (hshare := fun c => (dats m 0 c).share_full fun _ => rfl)
    (howed := fun _ _ => rfl) (V := V m) (hmain := hmain m Variants.none) (hA := A_eq m) (R := R0) (hR := R0_sub) (Y := Y0 m)
    (hin := hin0 m) (hout := hout0 m) (Q' := fun r => Pipeline.RoutedPost cfgs (dats m) 0 R0 (V m) (Y0 m) r ∧ r.2.sem = fun _ => 0)
    (hQ' := fun _ h => h)

theorem run_all : θ_run defs (onTc (τ := τ) (main (F := F))) ⟨m, fun _ => 0, ρ⟩ (fun r => (∀ c : Dev nD,
      r.2.mem ((c.tc : Thread nD τ).loc main_v3_0) = (dats m 0 c).arrAt 3 cfg0.N
      ∧ r.2.mem ((c.tc : Thread nD τ).loc main_v3_1) = codesOf (dyOf m c)
      ∧ r.2.mem ((c.tc : Thread nD τ).loc main_v3_2) = (dats m 0 c).arrAt 4 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => ⟨(h.1 c).1 3, ((h.1 c).2.1 main_v3_1 (by decide)).trans (Function.update_self _ _ _), (h.1 c).1 4,
      ((h.1 c).2.2 main_arg0 (Finset.mem_sdiff.mpr ⟨Pipeline.mem_restRefs_of main_arg0 (by decide) (by decide), by decide⟩)).trans (V_main_arg0 m c),
      ((h.1 c).2.2 main_arg1 (Finset.mem_sdiff.mpr ⟨Pipeline.mem_restRefs_of main_arg1 (by decide) (by decide), by decide⟩)).trans (V_main_arg1 m c),
      ((h.1 c).2.2 main_arg2 (Finset.mem_sdiff.mpr ⟨Pipeline.mem_restRefs_of main_arg2 (by decide) (by decide), by decide⟩)).trans (V_main_arg2 m c),
      ((h.1 c).1 2).trans (((dats m 0 c).arrAt_in 2 rfl _).trans ((A_eq m c 2).trans (V_main_arg3 m c)))⟩, h.2⟩) (run_main m ρ)

/-- The kernel runs, leaves its arguments as they were and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => (h.1 c).2.2.2, h.2⟩) (run_all m ρ)

end Cert.KernelIdeal.Hand

end
-- ==== Proof.Num.lean ====
module

public import Idealize.ShloMosaic.Lib.IdealHost
public import Idealize.ShloMosaic.PureOps.Ideal.Laws
public import Mathlib.Analysis.SpecialFunctions.Log.Basic
public import Mathlib.Analysis.SpecialFunctions.Pow.Real

@[expose] public section

set_option maxRecDepth 16384

noncomputable section

/-! Exact arithmetic over the extended reals: the exponent field a binary search against the powers of two finds,
the power of two built from that field, and the same two values through the logarithm. -/

namespace Cert.Num

open Idealize.ShloMosaic

/-- One step of the search: the field grows by `b` where the value reaches the float whose exponent field is `f + b`. -/
def stepF (t : EReal) (f b : BitVec 32) : BitVec 32 :=
  Scalar.select (Ideal.cmp .oge t (Ideal.ofBits .f32 (IntOp.shli .vector (IntOp.addi f b) 23#32))) (IntOp.addi f b) f

/-- The exponent field of `t`, as the search finds it. -/
def fieldF (t : EReal) : BitVec 32 :=
  stepF t (stepF t (stepF t (stepF t (stepF t (stepF t (stepF t (stepF t 0#32 128#32) 64#32) 32#32) 16#32) 8#32) 4#32) 2#32) 1#32

/-- The scale's exponent, from the absolute maximum `a` and the ratio `t`. -/
def expoW (a t : EReal) : BitVec 32 :=
  let f := Scalar.select (Ideal.cmp .one t t) 255#32 (fieldF t)
  Scalar.select (IntOp.ori (IntOp.ori (IntOp.cmpi .eq f 0#32) (IntOp.cmpi .eq f 255#32)) (Ideal.cmp .oeq a (Ideal.ofBits .f32 0x00000000#32)))
    0#32 (IntOp.subi f 126#32)

/-- The power of two with biased exponent `b`, zero below the range and `⊤` above it. -/
def powW (b : BitVec 32) : EReal :=
  Ideal.ofBits .f32 (Scalar.select (IntOp.cmpi .sle b 0#32) 0#32
    (IntOp.shli .vector (Scalar.select (IntOp.cmpi .sge b 255#32) 255#32 b) 23#32))

/-- `2 ^ (k - 127)`, the value of the float with exponent field `k` and no fraction. -/
def pw (k : ℕ) : EReal := (((2 : ℝ) ^ ((k : ℤ) - 127) : ℝ) : EReal)

theorem pw_lt {j k : ℕ} (h : j < k) : pw j < pw k :=
  EReal.coe_lt_coe_iff.mpr (zpow_lt_zpow_right₀ one_lt_two (by omega))

theorem ofBits_f32 (w : BitVec 32) : Ideal.ofBits .f32 w = Ideal.ieee 8 23 w := rfl

/-- A normal f32 pattern with no sign and no fraction. -/
theorem ieee_pow (w : BitVec 32) (k : ℕ) (h1 : 1 ≤ k) (h2 : k ≤ 254) (hn : w.toNat = k * 2 ^ 23) : Ideal.ieee 8 23 w = pw k := by
  have hs : w.extractLsb' (8 + 23) 1 = 0#1 := by
    apply BitVec.eq_of_toNat_eq; rw [BitVec.extractLsb'_toNat, hn, Nat.shiftRight_eq_div_pow, BitVec.toNat_ofNat]; omega
  have he : (w.extractLsb' 23 8).toNat = k := by
    rw [BitVec.extractLsb'_toNat, hn, Nat.shiftRight_eq_div_pow]; omega
  have hf : (w.extractLsb' 0 23).toNat = 0 := by
    rw [BitVec.extractLsb'_toNat, hn, Nat.shiftRight_eq_div_pow]; omega
  unfold Ideal.ieee
  simp only [hs, he, hf]
  rw [if_neg (by omega), if_neg (by omega)]
  unfold pw
  congr 1
  have : (2 : ℝ) ^ ((k : ℤ) - 127) = 2 ^ (23 : ℤ) * 2 ^ ((k : ℤ) - (2 ^ (8 - 1) - 1) - 23) := by
    rw [← zpow_add₀ two_ne_zero]; congr 1; norm_num
  rw [this]; norm_num

theorem word_toNat (k : ℕ) (hk : k ≤ 255) : (BitVec.ofNat 32 k <<< (23#32)).toNat = k * 2 ^ 23 := by
  rw [BitVec.shiftLeft_eq', show (23#32).toNat = 23 from rfl, BitVec.toNat_shiftLeft, BitVec.toNat_ofNat, Nat.mod_eq_of_lt (by omega),
    Nat.shiftLeft_eq, Nat.mod_eq_of_lt (by omega)]

theorem word_pow (k : ℕ) (h1 : 1 ≤ k) (h2 : k ≤ 254) : Ideal.ofBits .f32 (BitVec.ofNat 32 k <<< (23#32)) = pw k :=
  (ofBits_f32 _).trans (ieee_pow _ k h1 h2 (word_toNat k (by omega)))

theorem ieee_top : Ideal.ieee 8 23 (0x7F800000#32) = ⊤ := by
  simp [Ideal.ieee]

theorem word_top : Ideal.ofBits .f32 (BitVec.ofNat 32 255 <<< (23#32)) = ⊤ := by
  rw [ofBits_f32, show (BitVec.ofNat 32 255 <<< (23#32)) = 0x7F800000#32 by decide]; exact ieee_top

/-- Where the search compares against: the exponent field's float, `⊤` at the last. -/
def thr (k : ℕ) : EReal := if k = 255 then ⊤ else pw k

theorem word_thr (k : ℕ) (h1 : 1 ≤ k) (h2 : k ≤ 255) : Ideal.ofBits .f32 (BitVec.ofNat 32 k <<< (23#32)) = thr k := by
  unfold thr
  split
  · next h => subst h; exact word_top
  · exact word_pow k h1 (by omega)

theorem stepF_eq (t : EReal) (f b : ℕ) (h1 : 1 ≤ b) (h2 : f + b ≤ 255) :
    stepF t (BitVec.ofNat 32 f) (BitVec.ofNat 32 b) = BitVec.ofNat 32 (if thr (f + b) ≤ t then f + b else f) := by
  have h : IntOp.addi (BitVec.ofNat 32 f) (BitVec.ofNat 32 b) = BitVec.ofNat 32 (f + b) := (BitVec.ofNat_add ..).symm
  unfold stepF
  rw [h, show IntOp.shli .vector (BitVec.ofNat 32 (f + b)) 23#32 = BitVec.ofNat 32 (f + b) <<< (23#32) from rfl, word_thr _ (by omega) h2]
  by_cases ht : thr (f + b) ≤ t <;> simp [Scalar.select, Ideal.cmp, ht]

/-- What the search keeps: `f` is reached (or is where it started) and `f + w` is not (or is past the last field). -/
def Inv (t : EReal) (f w : ℕ) : Prop := f + w ≤ 256 ∧ (f = 0 ∨ thr f ≤ t) ∧ (f + w = 256 ∨ t < thr (f + w))

theorem stepF_inv {t : EReal} {g : BitVec 32} {w : ℕ} (hw : 1 ≤ w) (h : ∃ f, g = BitVec.ofNat 32 f ∧ Inv t f (2 * w)) :
    ∃ f, stepF t g (BitVec.ofNat 32 w) = BitVec.ofNat 32 f ∧ Inv t f w := by
  obtain ⟨f, rfl, h1, h2, h3⟩ := h
  refine ⟨_, stepF_eq t f w hw (by omega), ?_⟩
  split
  · next h => exact ⟨by omega, .inr h, by rwa [show f + w + w = f + 2 * w by omega]⟩
  · next h => exact ⟨by omega, h2, .inr (not_le.mp h)⟩

theorem fieldF_inv (t : EReal) : ∃ f, fieldF t = BitVec.ofNat 32 f ∧ Inv t f 1 :=
  stepF_inv (w := 1) (by omega) <| stepF_inv (w := 2) (by omega) <| stepF_inv (w := 4) (by omega) <| stepF_inv (w := 8) (by omega) <|
    stepF_inv (w := 16) (by omega) <| stepF_inv (w := 32) (by omega) <| stepF_inv (w := 64) (by omega) <|
    stepF_inv (w := 128) (by omega) ⟨0, rfl, by omega, .inl rfl, .inl rfl⟩

/-- A power of two by its exponent, zero below the normal range and `⊤` above it. -/
def pow2 (e : ℤ) : EReal := if 128 ≤ e then ⊤ else if e < -126 then 0 else (((2 : ℝ) ^ e : ℝ) : EReal)

theorem pow2_hi {e : ℤ} (h : 128 ≤ e) : pow2 e = ⊤ := if_pos h
theorem pow2_lo {e : ℤ} (h : e < -126) : pow2 e = 0 := (if_neg (by omega)).trans (if_pos h)

theorem powW_eq (e : ℤ) (h1 : -200 ≤ e) (h2 : e ≤ 200) : powW (BitVec.ofInt 32 (127 + e)) = pow2 e := by
  have hi : (BitVec.ofInt 32 (127 + e)).toInt = 127 + e := by
    rw [BitVec.toInt_ofInt]; exact Int.bmod_eq_of_le (by norm_num; omega) (by norm_num; omega)
  unfold powW pow2
  have hle : IntOp.cmpi .sle (BitVec.ofInt 32 (127 + e)) 0#32 = BitVec.ofBool (decide (127 + e ≤ 0)) := by
    show BitVec.ofBool (BitVec.sle _ _) = _
    rw [BitVec.sle_eq_decide, hi]; rfl
  have hge : IntOp.cmpi .sge (BitVec.ofInt 32 (127 + e)) 255#32 = BitVec.ofBool (decide (255 ≤ 127 + e)) := by
    show BitVec.ofBool (BitVec.sle _ _) = _
    rw [BitVec.sle_eq_decide, hi]; rfl
  rw [hle, hge]
  by_cases ha : 128 ≤ e
  · rw [decide_eq_false (by omega), decide_eq_true (by omega : 255 ≤ 127 + e), if_pos ha]
    exact word_top
  · rw [decide_eq_false (by omega : ¬ 255 ≤ 127 + e), if_neg ha]
    by_cases hb : e < -126
    · rw [decide_eq_true (by omega : 127 + e ≤ 0), if_pos hb]
      exact Ideal.ofBits_zero_f32
    · rw [decide_eq_false (by omega : ¬ 127 + e ≤ 0), if_neg hb]
      obtain ⟨k, hk⟩ : ∃ k : ℕ, 127 + e = k := ⟨(127 + e).toNat, by omega⟩
      show Ideal.ofBits .f32 (BitVec.ofInt 32 (127 + e) <<< (23#32)) = _
      rw [hk, show BitVec.ofInt 32 (k : ℤ) = BitVec.ofNat 32 k from BitVec.ofInt_natCast .., word_pow k (by omega) (by omega)]
      unfold pw
      rw [show (k : ℤ) - 127 = e by omega]

/-! ## The exponent through the logarithm -/

/-- The exponent as the reference states it: zero for a ratio under the normal range or infinite, else one more than the
floor of the ratio's base-two logarithm. -/
def expoR (t : EReal) : EReal :=
  Scalar.select (IntOp.ori (Ideal.cmp .olt t (Ideal.ofBits .f32 0x00800000#32)) (Ideal.cmp .oeq t (Ideal.ofBits .f32 0x7F800000#32)))
    (Ideal.ofBits .f32 0x00000000#32)
    (Ideal.liftRound Int.floor (Ideal.div (Ideal.log t) (Ideal.log (Ideal.ofBits .f32 0x40000000#32))) + Ideal.ofBits .f32 0x3F800000#32)

/-- A power of two as the reference states it. -/
def powR (x : EReal) : EReal :=
  Scalar.select (Ideal.cmp .oge x (Ideal.ofBits .f32 0x43000000#32)) (Ideal.ofBits .f32 0x7F800000#32)
    (Scalar.select (Ideal.cmp .olt x (Ideal.ofBits .f32 0xC2FC0000#32)) (Ideal.ofBits .f32 0x00000000#32) (Ideal.exp2 x))

theorem c_inf : Ideal.ofBits .f32 0x7F800000#32 = ⊤ := (ofBits_f32 _).trans ieee_top
theorem c_min : Ideal.ofBits .f32 0x00800000#32 = pw 1 := (ofBits_f32 _).trans (ieee_pow _ 1 (by omega) (by omega) rfl)
theorem c_two : Ideal.ofBits .f32 0x40000000#32 = ((2 : ℝ) : EReal) := by
  rw [ofBits_f32, ieee_pow _ 128 (by omega) (by omega) rfl]; unfold pw; norm_num
theorem c_128 : Ideal.ofBits .f32 0x43000000#32 = ((128 : ℝ) : EReal) := by
  rw [ofBits_f32, ieee_pow _ 134 (by omega) (by omega) rfl]; unfold pw; norm_num
theorem c_m126 : Ideal.ofBits .f32 0xC2FC0000#32 = ((-126 : ℝ) : EReal) := by
  rw [ofBits_f32]; simp [Ideal.ieee]; norm_cast; norm_num
theorem c_max : Ideal.ofBits .f32 0x37924925#32 = ((9586981 * 2 ^ (-39 : ℤ) : ℝ) : EReal) := by
  rw [ofBits_f32]; simp [Ideal.ieee]

theorem powR_eq (e : ℤ) : powR ((e : ℝ) : EReal) = pow2 e := by
  unfold powR pow2
  rw [c_inf, c_128, c_m126, Ideal.ofBits_zero_f32]
  have h1 : Ideal.cmp .oge ((e : ℝ) : EReal) ((128 : ℝ) : EReal) = BitVec.ofBool (decide (128 ≤ e)) := by
    unfold Ideal.cmp; congr 1; rw [decide_eq_decide, EReal.coe_le_coe_iff]; exact_mod_cast Iff.rfl
  have h2 : Ideal.cmp .olt ((e : ℝ) : EReal) ((-126 : ℝ) : EReal) = BitVec.ofBool (decide (e < -126)) := by
    unfold Ideal.cmp; congr 1; rw [decide_eq_decide, EReal.coe_lt_coe_iff]; exact_mod_cast Iff.rfl
  rw [h1, h2]
  by_cases ha : 128 ≤ e
  · rw [decide_eq_true ha, if_pos ha]; rfl
  · rw [decide_eq_false ha, if_neg ha]
    by_cases hb : e < -126
    · rw [decide_eq_true hb, if_pos hb]; rfl
    · rw [decide_eq_false hb, if_neg hb]
      show ((Real.rpow 2 (e : ℝ) : ℝ) : EReal) = _
      congr 1; exact Real.rpow_intCast 2 e

/-- A real between two neighbouring powers of two has the lower one's exponent for its logarithm's floor. -/
theorem floor_log (r : ℝ) (n : ℤ) (h1 : (2 : ℝ) ^ n ≤ r) (h2 : r < (2 : ℝ) ^ (n + 1)) : ⌊Real.log r * (Real.log 2)⁻¹⌋ = n := by
  have hl : 0 < Real.log 2 := Real.log_pos one_lt_two
  have hp : (0 : ℝ) < 2 ^ n := zpow_pos two_pos n
  rw [Int.floor_eq_iff, ← div_eq_mul_inv, le_div_iff₀ hl, div_lt_iff₀ hl]
  constructor
  · rw [← Real.log_zpow]; exact Real.log_le_log hp h1
  · have := Real.log_lt_log (hp.trans_le h1) h2
    rw [Real.log_zpow] at this; push_cast at this; exact this

/-- A real at least a power of two has at least its exponent for its logarithm's floor. -/
theorem le_floor_log (r : ℝ) (n : ℤ) (h1 : (2 : ℝ) ^ n ≤ r) : n ≤ ⌊Real.log r * (Real.log 2)⁻¹⌋ := by
  have hl : 0 < Real.log 2 := Real.log_pos one_lt_two
  rw [Int.le_floor, ← div_eq_mul_inv, le_div_iff₀ hl, ← Real.log_zpow]
  exact Real.log_le_log (zpow_pos two_pos n) h1

theorem cmpi_eq_ofNat (k c : ℕ) (hk : k < 2 ^ 32) (hc : c < 2 ^ 32) :
    IntOp.cmpi .eq (BitVec.ofNat 32 k) (BitVec.ofNat 32 c) = BitVec.ofBool (decide (k = c)) := by
  unfold IntOp.cmpi; congr 1
  rw [Bool.eq_iff_iff, beq_iff_eq, decide_eq_true_iff, ← BitVec.toNat_inj, BitVec.toNat_ofNat, BitVec.toNat_ofNat,
    Nat.mod_eq_of_lt hk, Nat.mod_eq_of_lt hc]

theorem subi_ofNat (k c : ℕ) : IntOp.subi (BitVec.ofNat 32 k) (BitVec.ofNat 32 c) = BitVec.ofInt 32 ((k : ℤ) - c) := by
  show BitVec.ofNat 32 k - BitVec.ofNat 32 c = _
  rw [← BitVec.ofInt_natCast, ← BitVec.ofInt_natCast, BitVec.sub_eq_add_neg, ← BitVec.ofInt_neg, ← BitVec.ofInt_add, Int.sub_eq_add_neg]

theorem pw_pos (k : ℕ) : 0 < pw k := EReal.coe_pos.mpr (zpow_pos two_pos _)

theorem thr_pos (k : ℕ) : 0 < thr k := by
  unfold thr; split
  · exact EReal.zero_lt_top
  · exact pw_pos k

/-- The exponent word, by the field the search found. -/
theorem expoW_eq (a t : EReal) (k : ℕ) (hf : fieldF t = BitVec.ofNat 32 k) (hb : k ≤ 255) (hk : k = 0 ∨ thr k ≤ t) (ha : a = 0 → t = 0) :
    expoW a t = if k = 0 ∨ k = 255 then 0#32 else BitVec.ofInt 32 ((k : ℤ) - 126) := by
  have hz : a = 0 → k = 0 := fun h => by
    rcases hk with h' | h'
    · exact h'
    · exact absurd (ha h ▸ h') (not_le.mpr (thr_pos k))
  have hone : Ideal.cmp .one t t = 0#1 := by simp [Ideal.cmp]
  unfold expoW
  rw [hone, Ideal.ofBits_zero_f32, hf]
  have e0 := cmpi_eq_ofNat k 0 (by omega) (by omega)
  have e1 := cmpi_eq_ofNat k 255 (by omega) (by omega)
  have e2 : Ideal.cmp .oeq a 0 = BitVec.ofBool (decide (a = 0)) := rfl
  have e3 := subi_ofNat k 126
  have e4 : Scalar.select 0#1 255#32 (BitVec.ofNat 32 k) = BitVec.ofNat 32 k := if_neg (by decide)
  simp only [e4]
  rw [e0, e1, e2, e3]
  by_cases c0 : k = 0
  · rw [if_pos (.inl c0), decide_eq_true c0]
    by_cases c1 : k = 255 <;> by_cases c2 : a = 0 <;> simp [c1, c2, Scalar.select, IntOp.ori]
  · have c2 : a ≠ 0 := fun h => c0 (hz h)
    by_cases c1 : k = 255 <;> simp [c0, c1, c2, Scalar.select, IntOp.ori]

/-- Where the reference's exponent is zero by its own clause. -/
theorem special_iff (t : EReal) (b : Bool) :
    (IntOp.ori (Ideal.cmp .olt t (Ideal.ofBits .f32 0x00800000#32)) (Ideal.cmp .oeq t (Ideal.ofBits .f32 0x7F800000#32))
      = BitVec.ofBool b) ↔ ((t < pw 1 ∨ t = ⊤) ↔ b = true) := by
  rw [c_min, c_inf]; unfold Ideal.cmp
  by_cases c1 : t < pw 1 <;> by_cases c2 : t = ⊤ <;> cases b <;> simp [c1, c2, IntOp.ori]

/-- The two exponents are one integer, or both past the range's top. -/
theorem expo_eq (a t : EReal) (h0 : 0 ≤ t) (ha : a = 0 → t = 0) :
    ∃ e e' : ℤ, -126 ≤ e ∧ e ≤ 128 ∧ (e = e' ∨ 128 ≤ e ∧ 128 ≤ e') ∧ expoW a t = BitVec.ofInt 32 e ∧ expoR t = ((e' : ℝ) : EReal) := by
  obtain ⟨k, hf, hw, hk, hk'⟩ := fieldF_inv t
  have hW := expoW_eq a t k hf (by omega) hk ha
  have hR := special_iff t
  by_cases c0 : k = 0
  · refine ⟨0, 0, by omega, by omega, .inl rfl, by rw [hW, if_pos (.inl c0)]; rfl, ?_⟩
    unfold expoR
    rw [(hR true).mpr ⟨fun _ => rfl, fun _ => .inl ?_⟩]
    · show Ideal.ofBits .f32 0x00000000#32 = _
      rw [Ideal.ofBits_zero_f32]; simp
    · rcases hk' with h | h
      · omega
      · subst c0; exact h
  by_cases c1 : k = 255
  · refine ⟨0, 0, by omega, by omega, .inl rfl, by rw [hW, if_pos (.inr c1)]; rfl, ?_⟩
    unfold expoR
    rw [(hR true).mpr ⟨fun _ => rfl, fun _ => .inr ?_⟩]
    · show Ideal.ofBits .f32 0x00000000#32 = _
      rw [Ideal.ofBits_zero_f32]; simp
    · rcases hk with h | h
      · omega
      · subst c1; exact top_le_iff.mp h
  have hlo : pw k ≤ t := by
    rcases hk with h | h
    · omega
    · unfold thr at h; rwa [if_neg c1] at h
  have hhi : t < thr (k + 1) := by
    rcases hk' with h | h
    · omega
    · exact h
  have htop : t ≠ ⊤ := fun h => absurd (h ▸ hhi) not_top_lt
  obtain ⟨r, rfl⟩ : ∃ r : ℝ, t = r := ⟨t.toReal, (EReal.coe_toReal htop (fun h => absurd (h ▸ h0) (by simp))).symm⟩
  have h1 : (2 : ℝ) ^ ((k : ℤ) - 127) ≤ r := EReal.coe_le_coe_iff.mp hlo
  have hr : 0 < r := (zpow_pos two_pos _).trans_le h1
  have hE : expoR (r : EReal) = (((⌊Real.log r * (Real.log 2)⁻¹⌋ + 1 : ℤ) : ℝ) : EReal) := by
    unfold expoR
    rw [(hR false).mpr ⟨fun h => h.elim (fun h => absurd h (not_lt.mpr (le_trans ?_ hlo))) fun h => absurd h htop, fun h => by cases h⟩]
    · rw [c_two, show Ideal.ofBits .f32 0x3F800000#32 = ((1 : ℝ) : EReal) from Ideal.ofBits_one_f32]
      have l2 : Real.log 2 ≠ 0 := (Real.log_pos one_lt_two).ne'
      have hl : ∀ x : ℝ, 0 < x → Ideal.log (x : EReal) = ((Real.log x : ℝ) : EReal) := fun x hx => by
        show (if x ≤ 0 then ⊥ else _) = _
        rw [if_neg (not_le.mpr hx)]
      rw [hl r hr, hl 2 two_pos]
      unfold Ideal.div
      rw [if_neg (by exact_mod_cast l2), ← EReal.coe_inv, ← EReal.coe_mul]
      show ((((⌊_⌋ : ℤ) : ℝ) : EReal)) + _ = _
      rw [← EReal.coe_add]; push_cast; rfl
    · rcases Nat.lt_or_ge 1 k with h | h
      · exact (pw_lt h).le
      · rw [show k = 1 by omega]
  refine ⟨(k : ℤ) - 126, _, by omega, by omega, ?_, by rw [hW, if_neg (by omega)], hE⟩
  by_cases c2 : k = 254
  · right
    have := le_floor_log r _ h1
    omega
  · left
    have h2 : r < (2 : ℝ) ^ ((k : ℤ) - 127 + 1) := by
      unfold thr at hhi; rw [if_neg (by omega)] at hhi
      have := EReal.coe_lt_coe_iff.mp hhi
      rwa [show ((k + 1 : ℕ) : ℤ) - 127 = (k : ℤ) - 127 + 1 by omega] at this
    rw [floor_log r _ h1 h2]; omega

theorem powW_word (e : ℤ) (h1 : -200 ≤ e) (h2 : e ≤ 200) : powW (IntOp.addi 127#32 (BitVec.ofInt 32 e)) = pow2 e := by
  rw [← powW_eq e h1 h2, show IntOp.addi 127#32 (BitVec.ofInt 32 e) = BitVec.ofInt 32 (127 + e) by
    rw [BitVec.ofInt_add]; rfl]

/-- Scale and reciprocal, by the kernel's words and by the reference's logarithm. -/
theorem scale_eq (a t : EReal) (h0 : 0 ≤ t) (ha : a = 0 → t = 0) :
    powW (IntOp.addi 127#32 (expoW a t)) = powR (expoR t)
      ∧ powW (IntOp.addi 127#32 (IntOp.subi 0#32 (expoW a t))) = powR (Ideal.ofBits .f32 0x00000000#32 - expoR t) := by
  obtain ⟨e, e', h1, h2, h3, hW, hR⟩ := expo_eq a t h0 ha
  have hn : IntOp.subi 0#32 (BitVec.ofInt 32 e) = BitVec.ofInt 32 (-e) := by
    unfold IntOp.subi; rw [BitVec.ofInt_neg]; exact BitVec.zero_sub _
  have hz : Ideal.ofBits .f32 0x00000000#32 - ((e' : ℝ) : EReal) = (((-e' : ℤ) : ℝ) : EReal) := by
    rw [Ideal.ofBits_zero_f32, zero_sub]; push_cast; rfl
  rw [hW, hR, hn, hz, powW_word e (by omega) (by omega), powW_word (-e) (by omega) (by omega), powR_eq, powR_eq]
  rcases h3 with rfl | ⟨h3, h4⟩
  · exact ⟨rfl, rfl⟩
  · rw [pow2_hi h3, pow2_hi h4, pow2_lo (by omega : -e < -126), pow2_lo (by omega : -e' < -126)]
    exact ⟨rfl, rfl⟩

end Cert.Num

end
-- ==== Proof.KernelValue.lean ====
module

public import proofs.«01_k».proof.Proof.Body
public import proofs.«01_k».proof.Proof.Num

@[expose] public section

set_option maxRecDepth 16384

noncomputable section

/-! What the kernel computes, over the extended reals: the absolute maximum by its upper bounds, the scale and its
reciprocal by their exponents, the codes and the product element by element. -/

namespace Cert.Num

open Idealize.ShloMosaic

/-- A maximum reduction from the bottom, by its upper bounds. -/
theorem maxRed_le {φ : FTy} {s t : Shape} {axes : List (Fin s.rank)} (src : FVec Ideal s φ) (acc : BitVec φ.bits) (h : s.Reduces axes t)
    (hφ : FKind.Formats φ) (hacc : acc = FKind.maximumf.neutral φ hφ) (hb : Ideal.ofBits φ acc = ⊥) (j : t.Idx) (z : EReal) :
    multiReduction .maximumf axes t src acc h hφ hacc j ≤ z ↔ ∀ i, h.drop i = j → src i ≤ z := by
  rw [multiReduction_maximumf_eq_fold]
  show (Finset.univ.filter fun i => h.drop i = j).fold max (Ideal.ofBits φ acc) src ≤ z ↔ _
  rw [Finset.fold_max_le, hb]
  simp

/-- The same over every result index at once. -/
theorem maxRed_all {φ : FTy} {s t : Shape} {axes : List (Fin s.rank)} (src : FVec Ideal s φ) (acc : BitVec φ.bits) (h : s.Reduces axes t)
    (hφ : FKind.Formats φ) (hacc : acc = FKind.maximumf.neutral φ hφ) (hb : Ideal.ofBits φ acc = ⊥) (z : EReal) :
    (∀ j, multiReduction .maximumf axes t src acc h hφ hacc j ≤ z) ↔ ∀ i, src i ≤ z :=
  ⟨fun H i => (maxRed_le src acc h hφ hacc hb _ z).mp (H (h.drop i)) i rfl, fun H j => (maxRed_le src acc h hφ hacc hb j z).mpr fun i _ => H i⟩

/-- Into a shape of one index. -/
theorem maxRed_one {φ : FTy} {s t : Shape} {axes : List (Fin s.rank)} (src : FVec Ideal s φ) (acc : BitVec φ.bits) (h : s.Reduces axes t)
    (hφ : FKind.Formats φ) (hacc : acc = FKind.maximumf.neutral φ hφ) (hb : Ideal.ofBits φ acc = ⊥) (ht : ∀ b, t.size b = 1) (j : t.Idx) (z : EReal) :
    multiReduction .maximumf axes t src acc h hφ hacc j ≤ z ↔ ∀ i, src i ≤ z := by
  rw [← maxRed_all src acc h hφ hacc hb z]
  refine ⟨fun H k => ?_, fun H => H j⟩
  rwa [show k = j from funext fun b => Fin.ext (by have := (k b).isLt; have := (j b).isLt; have := ht b; omega)]

theorem shapeCast_all {φ : FTy} {s t : Shape} (x : FVec Ideal s φ) (h : s.ShapeCasts t) (z : EReal) : (∀ j, shapeCast t x h j ≤ z) ↔ ∀ i, x i ≤ z :=
  (Shape.reshapeEquiv h).forall_congr_left (p := fun j => x (Shape.reshapeEquiv h j) ≤ z) |>.trans (by simp)

theorem bot_bf16 : Ideal.ofBits .bf16 0xFF80#16 = ⊥ := by
  simp [Ideal.ofBits, Ideal.ieee]
theorem bot_f32 : Ideal.ofBits .f32 0xFF800000#32 = ⊥ := by
  rw [ofBits_f32]; simp [Ideal.ieee]

/-- The absolute value. -/
def absE (x : EReal) : EReal := max x (-x)

theorem absE_nonneg (x : EReal) : 0 ≤ absE x := by
  unfold absE
  rcases le_total 0 x with h | h
  · exact h.trans (le_max_left _ _)
  · exact (EReal.neg_nonneg.mpr h).trans (le_max_right _ _)

end Cert.Num

namespace Cert.KernelIdeal.Hand

open Cert.KernelIdeal Cert.KernelIdeal.Gen Cert.Num
open Idealize.ShloMosaic

/-- The running maximum of one chunk. -/
theorem chunk_all (acc : FVec Ideal S16x3072 .bf16) (x : Vec Ideal S512x3072 .bf16) (z : EReal) :
    (∀ j, maximumf acc (multiReduction .maximumf [0] S16x3072 (shapeCast S32x16x3072 (absf (F := Ideal) (φ := .bf16) x) shapeCasts_S512x3072_S32x16x3072) 0xFF80#16
      reduces_S32x16x3072_S16x3072 (.inr rfl) rfl) j ≤ z) ↔ (∀ j, acc j ≤ z) ∧ ∀ i, absE (x i) ≤ z := by
  have h0 := shapeCast_all (absf (F := Ideal) (φ := .bf16) x) shapeCasts_S512x3072_S32x16x3072 z
  generalize shapeCast S32x16x3072 (absf (F := Ideal) (φ := .bf16) x) shapeCasts_S512x3072_S32x16x3072 = y at h0 ⊢
  have h1 := maxRed_all y 0xFF80#16 reduces_S32x16x3072_S16x3072 (.inr rfl) rfl bot_bf16 z
  generalize multiReduction .maximumf [0] S16x3072 y 0xFF80#16 reduces_S32x16x3072_S16x3072 (.inr rfl) rfl = r at h1 ⊢
  refine Iff.trans ?_ (and_congr Iff.rfl (h1.trans h0))
  rw [← forall_and]
  exact forall_congr' fun j => max_le_iff

theorem pay2_all (a b : Vec Ideal S512x3072 .bf16) (z : EReal) :
    (∀ j, k0_pay2 a b j ≤ z) ↔ 0 ≤ z ∧ (∀ i, absE (a i) ≤ z) ∧ ∀ i, absE (b i) ≤ z := by
  unfold k0_pay2
  refine (chunk_all _ _ z).trans ?_
  rw [chunk_all, and_assoc]
  refine and_congr ?_ Iff.rfl
  refine ⟨fun h => ?_, fun h j => ?_⟩
  · have := h (fun a => ⟨0, by fin_cases a <;> decide⟩)
    exact (Ideal.ofBits_zero_bf16 ▸ this : (0 : EReal) ≤ z)
  · exact (Ideal.ofBits_zero_bf16.symm ▸ h : Ideal.ofBits .bf16 0x0000#16 ≤ z)

theorem pay3_all (p : FVec Ideal S16x3072 .bf16) (a b c : Vec Ideal S512x3072 .bf16) (z : EReal) :
    (∀ j, k0_pay3 p a b c j ≤ z) ↔ (((∀ j, p j ≤ z) ∧ ∀ i, absE (a i) ≤ z) ∧ ∀ i, absE (b i) ≤ z) ∧ ∀ i, absE (c i) ≤ z := by
  unfold k0_pay3
  exact (chunk_all _ _ z).trans (and_congr ((chunk_all _ _ z).trans (and_congr (chunk_all _ _ z) Iff.rfl)) Iff.rfl)

/-- The tile's one value, from the running maximum of the chunks. -/
def topOf (v : FVec Ideal S16x3072 .bf16) : EReal :=
  extractAt ![0, 0, 0] (shapeCast S1x1x1 (multiReduction .maximumf [1, 2] S1
    (shapeCast S1x16x3072 (extf .f32 v bitsLt_bf16_f32) shapeCasts_S16x3072_S1x16x3072) 0xFF800000#32
    reduces_S1x16x3072_S1 (.inl rfl) rfl) shapeCasts_S1_S1x1x1) inpos_S1x1x1_p0_0_0

theorem pay4_eq (p : FVec Ideal S16x3072 .bf16) (a b c : Vec Ideal S512x3072 .bf16) :
    k0_pay4 p a b c = broadcast S8x128 (topOf (k0_pay3 p a b c)) := by
  simp only [k0_pay4, k0_pay3, topOf]

theorem topOf_le (v : FVec Ideal S16x3072 .bf16) (z : EReal) : topOf v ≤ z ↔ ∀ j, v j ≤ z := by
  unfold topOf extractAt
  have h0 := shapeCast_all (φ := .f32) (extf .f32 v bitsLt_bf16_f32) shapeCasts_S16x3072_S1x16x3072 z
  generalize shapeCast S1x16x3072 (extf .f32 v bitsLt_bf16_f32) shapeCasts_S16x3072_S1x16x3072 = y at h0 ⊢
  have h1 := fun j => maxRed_one (φ := .f32) y 0xFF800000#32 reduces_S1x16x3072_S1 (.inl rfl) rfl bot_f32 (by decide) j z
  generalize multiReduction .maximumf [1, 2] S1 y 0xFF800000#32 reduces_S1x16x3072_S1 (.inl rfl) rfl = r at h1 ⊢
  unfold shapeCast
  exact (h1 _).trans h0

/-- The absolute maximum the kernel finds. -/
def amaxK (dy : Vec Ideal S4096x3072 .bf16) : EReal :=
  topOf (k0_pay3 (partMax dy) (chunk dy 2560 inb_S4096x3072_S512x3072_2560_0) (chunk dy 3072 inb_S4096x3072_S512x3072_3072_0)
    (chunk dy 3584 inb_S4096x3072_S512x3072_3584_0))

theorem amaxT_eq (dy : Vec Ideal S4096x3072 .bf16) : amaxT dy = fun _ => amaxK dy := by
  unfold amaxT amaxK; rw [pay4_eq]; unfold broadcast; rfl

/-- Every element of the gradient is in one of the eight chunks. -/
theorem chunks_all (dy : Vec Ideal S4096x3072 .bf16) (z : EReal) (i : S4096x3072.Idx)
    (h : ∀ k hk y, k ∈ [0, 512, 1024, 1536, 2048, 2560, 3072, 3584] → absE (chunk dy k hk y) ≤ z) : absE (dy i) ≤ z := by
  obtain ⟨p, hp, hi⟩ := rows_cover (e := .bf16) (Val := Elt Ideal) (w0 := chunk dy 0 inb_S4096x3072_S512x3072_0_0)
    (w1 := chunk dy 512 inb_S4096x3072_S512x3072_512_0) (w2 := chunk dy 1024 inb_S4096x3072_S512x3072_1024_0)
    (w3 := chunk dy 1536 inb_S4096x3072_S512x3072_1536_0) (w4 := chunk dy 2048 inb_S4096x3072_S512x3072_2048_0)
    (w5 := chunk dy 2560 inb_S4096x3072_S512x3072_2560_0) (w6 := chunk dy 3072 inb_S4096x3072_S512x3072_3072_0)
    (w7 := chunk dy 3584 inb_S4096x3072_S512x3072_3584_0) i
  obtain ⟨y, rfl⟩ := LoadRect.exists_idx_of_mem _ hi
  simp only [List.mem_cons, List.not_mem_nil, or_false] at hp
  rcases hp with rfl | rfl | rfl | rfl | rfl | rfl | rfl | rfl
  exacts [h 3584 inb_S4096x3072_S512x3072_3584_0 y (by decide), h 3072 inb_S4096x3072_S512x3072_3072_0 y (by decide),
    h 2560 inb_S4096x3072_S512x3072_2560_0 y (by decide), h 2048 inb_S4096x3072_S512x3072_2048_0 y (by decide),
    h 1536 inb_S4096x3072_S512x3072_1536_0 y (by decide), h 1024 inb_S4096x3072_S512x3072_1024_0 y (by decide),
    h 512 inb_S4096x3072_S512x3072_512_0 y (by decide), h 0 inb_S4096x3072_S512x3072_0_0 y (by decide)]

theorem amaxK_le (dy : Vec Ideal S4096x3072 .bf16) (z : EReal) : amaxK dy ≤ z ↔ ∀ i, absE (dy i) ≤ z := by
  unfold amaxK partMax
  rw [topOf_le, pay3_all, pay3_all, pay2_all]
  constructor
  · rintro ⟨⟨⟨⟨⟨⟨⟨-, h0, h1⟩, h2⟩, h3⟩, h4⟩, h5⟩, h6⟩, h7⟩ i
    refine chunks_all dy z i fun k hk y hm => ?_
    simp only [List.mem_cons, List.not_mem_nil, or_false] at hm
    rcases hm with rfl | rfl | rfl | rfl | rfl | rfl | rfl | rfl
    exacts [h0 y, h1 y, h2 y, h3 y, h4 y, h5 y, h6 y, h7 y]
  · intro h
    have hc : ∀ k hk y, absE (chunk dy k hk y) ≤ z := fun k hk y => h _
    exact ⟨⟨⟨⟨⟨⟨⟨(absE_nonneg _).trans (h (fun a => ⟨0, by fin_cases a <;> decide⟩)), hc _ _, hc _ _⟩, hc _ _⟩, hc _ _⟩, hc _ _⟩, hc _ _⟩, hc _ _⟩, hc _ _⟩

theorem amaxK_nonneg (dy : Vec Ideal S4096x3072 .bf16) : 0 ≤ amaxK dy :=
  (absE_nonneg _).trans ((amaxK_le dy _).mp le_rfl (fun a => ⟨0, by fin_cases a <;> decide⟩))

/-! ## The scale and its reciprocal -/

/-- One step of the search, on every lane. -/
def stepV (t : FVec Ideal S8x128 .f32) (v b : IVec S8x128 32) : IVec S8x128 32 :=
  select (cmpf .oge t (bitcastToFloat .f32 (shli (addi v b) (broadcast S8x128 23#32)))) (addi v b) v

theorem stepV_const (t : EReal) (f b : BitVec 32) : stepV (fun _ => t) (fun _ => f) (broadcast S8x128 b) = fun _ => stepF t f b := rfl

theorem pay8_eq (T : FVec Ideal S8x128 .f32) (v b : IVec S8x128 32) : k0_pay8 T v b
    = stepV T (stepV T (stepV T (stepV T (stepV T (stepV T v b) (broadcast S8x128 64#32)) (broadcast S8x128 32#32)) (broadcast S8x128 16#32))
        (broadcast S8x128 8#32)) (broadcast S8x128 4#32) := rfl

/-- The ratio the exponent is read from. -/
def ratioK (dy : Vec Ideal S4096x3072 .bf16) : EReal := amaxK dy * Ideal.ofBits .f32 0x37924925#32

theorem ratioT_eq (dy : Vec Ideal S4096x3072 .bf16) : ratioT dy = fun _ => ratioK dy := by
  have h := amaxT_eq dy
  unfold amaxT at h
  unfold ratioT k0_pay5
  rw [h]
  rfl

/-- The field after the search's first six steps. -/
def field6 (t : EReal) : BitVec 32 :=
  stepF t (stepF t (stepF t (stepF t (stepF t (stepF t 0#32 128#32) 64#32) 32#32) 16#32) 8#32) 4#32

theorem pay8_const (t : EReal) : k0_pay8 (F := Ideal) (fun _ => t) k0_pay6 k0_pay7 = fun _ => field6 t := by
  rw [pay8_eq, show k0_pay6 = fun _ => 0#32 from rfl, show k0_pay7 = broadcast S8x128 128#32 from rfl]
  simp only [stepV_const]
  rfl

theorem pay9_const (t : EReal) : k0_pay9 (F := Ideal) (fun _ => t) k0_pay6 k0_pay7 = addi (fun _ => field6 t) (broadcast S8x128 2#32) := by
  unfold k0_pay9; rw [pay8_const]

theorem pay10_const (t : EReal) : k0_pay10 (F := Ideal) (fun _ => t) k0_pay6 k0_pay7
    = cmpf (F := Ideal) (φ := .f32) .oge (fun _ => t) (bitcastToFloat .f32 (shli (addi (fun _ => field6 t) (broadcast S8x128 2#32)) (broadcast S8x128 23#32))) := by
  unfold k0_pay10; rw [pay9_const]

theorem pay11_const (a t : EReal) : k0_pay11 (F := Ideal) (fun _ => a) (fun _ => t) (k0_pay8 (F := Ideal) (fun _ => t) k0_pay6 k0_pay7)
    (k0_pay9 (F := Ideal) (fun _ => t) k0_pay6 k0_pay7) (k0_pay10 (F := Ideal) (fun _ => t) k0_pay6 k0_pay7) = fun _ => expoW a t := by
  rw [pay8_const, pay9_const, pay10_const]
  rfl

theorem scaleOf_eq (dy : Vec Ideal S4096x3072 .bf16) : scaleOf dy = powW (IntOp.addi 127#32 (expoW (amaxK dy) (ratioK dy))) := by
  unfold scaleOf k0_pay12
  rw [amaxT_eq, ratioT_eq, pay11_const]
  rfl

theorem invOf_eq (dy : Vec Ideal S4096x3072 .bf16) :
    invOf dy = powW (IntOp.addi 127#32 (IntOp.subi 0#32 (expoW (amaxK dy) (ratioK dy)))) := by
  unfold invOf k0_pay14 k0_pay13
  rw [amaxT_eq, ratioT_eq, pay11_const]
  rfl

end Cert.KernelIdeal.Hand

end
-- ==== Proof.KernelOut.lean ====
module

public import proofs.«01_k».proof.Proof.KernelValue
public import Idealize.ShloMosaic.Lib.Pipeline.ValueKit
public import Idealize.ShloMosaic.Lib.Pointwise

@[expose] public section

set_option maxRecDepth 16384

noncomputable section

/-! The arrays the kernel leaves, over the extended reals, element by element. -/

namespace Cert.Num

open Idealize.ShloMosaic

/-- The weight gradient: the accumulator plus the scaled product of the transposed activations with the codes. -/
def gradE (x : Fin 4096 → Fin 4096 → EReal) (q : Fin 4096 → Fin 3072 → EReal) (acc : Fin 4096 → Fin 3072 → EReal) (s : EReal)
    (i : Fin 4096) (j : Fin 3072) : EReal :=
  acc i j + (∑ k : Fin 4096, x k i * q k j) * s

end Cert.Num

namespace Cert.KernelIdeal.Hand

open Cert.KernelIdeal Cert.KernelIdeal.Gen Cert.Num
open Idealize.ShloMosaic Idealize.ShloMosaic.TcCoe

theorem pay1_apply (x : Vec Ideal S4096x256 .fp8e4m3) (q : Vec Ideal S4096x3072 .fp8e5m2) (acc : Vec Ideal S256x3072 .f32)
    (xs s : Ideal .f32) (r : Fin 256) (j : Fin 3072) :
    k0_pay1 x q acc xs s (ix2 r j) = (acc (ix2 r j) : EReal) + (∑ k : Fin 4096, (x (ix2 k r) : EReal) * q (ix2 k j)) * (xs * s) := by
  pointwise [k0_pay1]

variable (m : (ℓ : Loc nD τ sig) → Buf (Elt Ideal) ℓ)

/-- The activations, the accumulator and their scale as the launch finds them. -/
def xM (c : Dev nD) : Vec Ideal S4096x4096 .fp8e4m3 := V m c main_v1
def accM (c : Dev nD) : Vec Ideal S4096x3072 .f32 := V m c main_arg3
def xsM (c : Dev nD) : Vec Ideal S1x1 .f32 := V m c main_v0

theorem idx1 (t : Fin cfg0.N) : win0_1.index t 0 = 0 ∧ win0_1.index t 1 = t.val :=
  (by decide +kernel : ∀ t : Fin grid0.N, win0_1.index t 0 = 0 ∧ win0_1.index t 1 = t.val) t
theorem idx2 (t : Fin cfg0.N) : win0_2.index t 0 = t.val ∧ win0_2.index t 1 = 0 :=
  (by decide +kernel : ∀ t : Fin grid0.N, win0_2.index t 0 = t.val ∧ win0_2.index t 1 = 0) t
theorem idx3 (t : Fin cfg0.N) : win0_3.index t 0 = t.val ∧ win0_3.index t 1 = 0 :=
  (by decide +kernel : ∀ t : Fin grid0.N, win0_3.index t 0 = t.val ∧ win0_3.index t 1 = 0) t

theorem iblk1_apply (c : Dev nD) (t : Fin cfg0.N) (k : Fin 4096) (r : Fin 256) (a : Fin 4096) (ha : a.val = t.val * 256 + r.val) :
    iblk m c 1 t (ix2 k r) = xM m c (ix2 k a) := by
  have h := idx1 t
  unfold xM
  blk_ext [iblk, V, h.1, h.2, ha]

theorem iblk2_apply (c : Dev nD) (t : Fin cfg0.N) (r : Fin 256) (j : Fin 3072) (a : Fin 4096) (ha : a.val = t.val * 256 + r.val) :
    iblk m c 2 t (ix2 r j) = accM m c (ix2 a j) := by
  have h := idx2 t
  unfold accM
  blk_ext [iblk, V, h.1, h.2, ha]

theorem iblk0_apply (c : Dev nD) (t : Fin cfg0.N) (i : S1x1.Idx) : iblk m c 0 t i = xsM m c (ix2 0 0) := by
  have h : win0_0.index t 0 = 0 ∧ win0_0.index t 1 = 0 := ⟨rfl, rfl⟩
  unfold xsM
  blk_ext [iblk, V, h.1, h.2]

theorem arr3_eq (c : Dev nD) : (dats m 0 c).arrAt 3 cfg0.N = fun i =>
    gradE (fun k a => xM m c (ix2 k a)) (fun k b => codesOf (dyOf m c) (ix2 k b)) (fun a b => accM m c (ix2 a b))
      ((xsM m c (ix2 0 0) : EReal) * scaleOf (dyOf m c)) (i 0) (i 1) := by
  refine (dats m 0 c).arrAt_eq_of_covers 3 _ (by decide +kernel) fun t hf y => ?_
  have h3 : (dats m 0 c).after 3 t = outAt m c t := by dsimp only [dats]
  blk_simp
  rw [h3]
  obtain ⟨r, j, rfl⟩ : ∃ (r : Fin 256) (j : Fin 3072), y = ix2 r j := ⟨y 0, y 1, eq_ix2 y⟩
  have h := idx3 t
  have e0 : ((win0_3.blk t).view.emb (ix2 r j) 0).val = t.val * 256 + r.val := by blk_simp [h.1]
  have e1 : (win0_3.blk t).view.emb (ix2 r j) 1 = j := Fin.ext (by blk_simp [h.2])
  rw [e1]
  generalize (win0_3.blk t).view.emb (ix2 r j) 0 = a at e0 ⊢
  unfold outAt outOf gradE
  rw [pay1_apply, iblk2_apply m c t r j a e0, iblk0_apply]
  simp only [fun k => iblk1_apply m c t k r a e0]

end Cert.KernelIdeal.Hand

end
-- ==== Proof.KernelEntry.lean ====
module

public import proofs.«01_k».proof.Proof.KernelOut
public import Idealize.ShloMosaic.Lib.Claim

@[expose] public section

set_option maxRecDepth 16384

noncomputable section

/-! The launch's operands, from the kernel's arguments. -/

namespace Cert.KernelIdeal.Hand

open Cert.KernelIdeal Cert.KernelIdeal.Gen Cert.Num
open Idealize.ShloMosaic Idealize.ShloMosaic.TcCoe

variable (m : (ℓ : Loc nD τ sig) → Buf (Elt Ideal) ℓ)

/-- The launch's operands, from the arguments. -/
theorem xM_eq (c : Dev nD) : xM m c = shapeCast S4096x4096 (m ((c : Thread nD τ).loc main_arg0)) shapeCasts_S1x4096x4096_S4096x4096 := by
  unfold xM
  entry_read
  rfl

theorem dyOf_eq (c : Dev nD) : dyOf m c = shapeCast S4096x3072 (m ((c : Thread nD τ).loc main_arg2)) shapeCasts_S1x4096x3072_S4096x3072 := by
  unfold dyOf
  entry_read
  rfl

theorem xsM_eq (c : Dev nD) : xsM m c = shapeCast S1x1 (m ((c : Thread nD τ).loc main_arg1)) shapeCasts_S_S1x1 := by
  unfold xsM
  entry_read
  rfl

theorem accM_eq (c : Dev nD) : accM m c = m ((c : Thread nD τ).loc main_arg3) := V_main_arg3 m c

end Cert.KernelIdeal.Hand

end
-- ==== Proof.KernelScale.lean ====
module

public import proofs.«01_k».proof.Proof.KernelOut
public import Idealize.ShloMosaic.Lib.Claim

@[expose] public section

set_option maxRecDepth 16384

noncomputable section

/-! The scale the kernel leaves. -/

namespace Cert.KernelIdeal.Hand

open Cert.KernelIdeal Cert.KernelIdeal.Gen Cert.Num
open Idealize.ShloMosaic Idealize.ShloMosaic.TcCoe

variable (m : (ℓ : Loc nD τ sig) → Buf (Elt Ideal) ℓ)

/-- Whatever the body's invariant, a third result left at one value at every point holds that value at the end. -/
theorem arr4_const {c : Dev nD} (D : Pipeline.Dat τ (Elt Ideal) Unit ℕ (Pipeline.UC sig nD τ) ℕ cfg0 c) (z : Ideal .f32)
    (h : ∀ t, D.after 4 t = fun _ => z) : D.arrAt 4 cfg0.N = fun _ => z := by
  refine D.arrAt_eq_of_covers 4 _ (by decide +kernel) fun t hf y => ?_
  blk_simp
  rw [h]

theorem after4 (c : Dev nD) (t : Fin cfg0.N) : (dats m 0 c).after 4 t = fun _ => scaleOf (dyOf m c) := by dsimp only [dats]

theorem arr4_eq (c : Dev nD) : (dats m 0 c).arrAt 4 cfg0.N = fun _ => scaleOf (dyOf m c) :=
  arr4_const (dats m 0 c) (scaleOf (dyOf m c)) (after4 m c)

end Cert.KernelIdeal.Hand

end
-- ==== Proof.RefValue.lean ====
module

public import proofs.«01_k».proof.Proof.Gen.ReferenceIdeal.Value
public import proofs.«01_k».proof.Proof.KernelValue
public import Idealize.ShloMosaic.Lib.Pointwise

@[expose] public section

set_option maxRecDepth 16384

noncomputable section

/-! What the reference's payloads compute, over the extended reals: the absolute maximum by its upper bounds, the scale and
its reciprocal through the logarithm, the codes and the product element by element. -/

namespace Cert.ReferenceIdeal.Hand

open Cert.ReferenceIdeal Cert.ReferenceIdeal.Gen Cert.Num
open Idealize.ShloMosaic

/-- The absolute maximum the reference finds. -/
def amaxR (dy : Vec Ideal S4096x3072 .bf16) : EReal :=
  extractAt ![0, 0, 0] (shapeCast S1x1x1 (multiReduction .maximumf [1, 2] S1
    (shapeCast S1x4096x3072 (absf (F := Ideal) (φ := .f32) (k0_pay3 dy)) shapeCasts_S4096x3072_S1x4096x3072) 0xFF800000#32
    reduces_S1x4096x3072_S1 (.inl rfl) rfl) shapeCasts_S1_S1x1x1) inpos_S1x1x1_p0_0_0

theorem pay3_apply (dy : Vec Ideal S4096x3072 .bf16) (i : S4096x3072.Idx) : (k0_pay3 dy i : EReal) = dy i := by
  unfold k0_pay3
  rw [shapeCast_self]
  rfl

theorem amaxR_le (dy : Vec Ideal S4096x3072 .bf16) (z : EReal) : amaxR dy ≤ z ↔ ∀ i, absE (dy i) ≤ z := by
  unfold amaxR extractAt
  have hx : ∀ i, absf (F := Ideal) (φ := .f32) (k0_pay3 dy) i = absE (dy i) := fun i =>
    (show absf (F := Ideal) (φ := .f32) (k0_pay3 dy) i = absE (k0_pay3 dy i) from rfl).trans (congrArg absE (pay3_apply dy i))
  generalize absf (F := Ideal) (φ := .f32) (k0_pay3 dy) = x at hx ⊢
  have h0 := shapeCast_all (φ := .f32) x shapeCasts_S4096x3072_S1x4096x3072 z
  generalize shapeCast S1x4096x3072 x shapeCasts_S4096x3072_S1x4096x3072 = y at h0 ⊢
  have h1 := fun j => maxRed_one (φ := .f32) y 0xFF800000#32 reduces_S1x4096x3072_S1 (.inl rfl) rfl bot_f32 (by decide) j z
  generalize multiReduction .maximumf [1, 2] S1 y 0xFF800000#32 reduces_S1x4096x3072_S1 (.inl rfl) rfl = r at h1 ⊢
  unfold shapeCast
  exact ((h1 _).trans h0).trans (forall_congr' fun i => by rw [hx i])

/-- The ratio the exponent is read from. -/
def ratioR (dy : Vec Ideal S4096x3072 .bf16) : EReal := amaxR dy * Ideal.ofBits .f32 0x37924925#32

/-- The scale and its reciprocal. -/
def scaleR (dy : Vec Ideal S4096x3072 .bf16) : EReal := powR (expoR (ratioR dy))
def invR (dy : Vec Ideal S4096x3072 .bf16) : EReal := powR (Ideal.ofBits .f32 0x00000000#32 - expoR (ratioR dy))

/-- A constant's value. -/
theorem bits_eq (b : BitVec 32) : Scalar.ofBits (F := Ideal) .f32 b = Ideal.ofBits .f32 b := rfl

/-- The exponent's operations at one ratio, the constants as variables. -/
theorem expo_core (a c c1 c2 c3 c4 c5 : Ideal .f32) :
    select (ori (cmpf .olt (mulf (broadcast S1x1 a) (broadcast S1x1 c)) (broadcast S1x1 c1))
        (cmpf .oeq (mulf (broadcast S1x1 a) (broadcast S1x1 c)) (broadcast S1x1 c2))) (broadcast S1x1 c3)
      (addf (floor (divf (log (mulf (broadcast S1x1 a) (broadcast S1x1 c))) (log (broadcast S1x1 c4)))) (broadcast S1x1 c5))
    = fun _ => (Scalar.select (IntOp.ori (Ideal.cmp .olt (a * c : EReal) c1) (Ideal.cmp .oeq (a * c : EReal) c2)) c3
      (Ideal.liftRound Int.floor (Ideal.div (Ideal.log (a * c : EReal)) (Ideal.log c4)) + c5 : EReal) : EReal) := rfl

/-- A power of two's operations, the constants as variables. -/
theorem pow_core (e c1 c2 c3 c4 : Ideal .f32) :
    select (cmpf .oge (fun _ => e : FVec Ideal S1x1 .f32) (broadcast S1x1 c1)) (broadcast S1x1 c2)
      (select (cmpf .olt (fun _ => e : FVec Ideal S1x1 .f32) (broadcast S1x1 c3)) (broadcast S1x1 c4) (exp2 (fun _ => e : FVec Ideal S1x1 .f32)))
    = fun _ => (Scalar.select (Ideal.cmp .oge e c1) c2 (Scalar.select (Ideal.cmp .olt e c3) c4 (Ideal.exp2 e)) : EReal) := rfl

theorem neg_core (e c : Ideal .f32) : subf (broadcast S1x1 c) (fun _ => e : FVec Ideal S1x1 .f32) = fun _ => (c - e : EReal) := rfl

theorem code_core (v2 : FVec Ideal S4096x3072 .f32) (inv lo hi : Ideal .f32) :
    truncf .fp8e5m2 (minimumf (broadcast S4096x3072 hi) (maximumf (broadcast S4096x3072 lo)
      (mulf v2 (broadcastTo S4096x3072 (fun _ => inv : FVec Ideal S1x1 .f32) broadcasts_S1x1_S4096x3072)))) bitsLt_fp8e5m2_f32
    = fun i => (min hi (max lo ((v2 i : EReal) * inv)) : EReal) := rfl

theorem pay4_eq (dy : Vec Ideal S4096x3072 .bf16) : k0_pay4 dy = fun _ => expoR (ratioR dy) := by
  unfold k0_pay4 ratioR amaxR
  dsimp only
  generalize extractAt (s := S1x1x1) ![0, 0, 0] _ _ = a
  rw [expo_core]
  simp only [bits_eq]
  unfold expoR
  with_reducible rfl

theorem pay5_eq (dy : Vec Ideal S4096x3072 .bf16) : k0_pay5 dy = fun _ => scaleR dy := by
  unfold k0_pay5 scaleR
  dsimp only
  rw [pay4_eq]
  generalize expoR (ratioR dy) = e
  rw [pow_core]
  simp only [bits_eq]
  unfold powR
  with_reducible rfl

theorem pay6_eq (dy : Vec Ideal S4096x3072 .bf16) :
    k0_pay6 dy = fun _ => (Ideal.ofBits .f32 0x00000000#32 - expoR (ratioR dy) : EReal) := by
  unfold k0_pay6
  dsimp only
  rw [pay4_eq, neg_core]
  simp only [bits_eq]

theorem pay78_eq (dy : Vec Ideal S4096x3072 .bf16) :
    select (k0_pay7 dy) (broadcast S1x1 (Scalar.ofBits .f32 0x7F800000#32)) (k0_pay8 dy) = fun _ => invR dy := by
  unfold k0_pay7 k0_pay8 invR
  dsimp only
  rw [pay6_eq]
  generalize (Ideal.ofBits .f32 0x00000000#32 - expoR (ratioR dy) : EReal) = e
  rw [pow_core]
  simp only [bits_eq]
  unfold powR
  with_reducible rfl

/-- One element's code: scaled, clamped to the format's range. -/
def codeE (inv x : EReal) : EReal :=
  min (Ideal.ofBits .f32 0x47600000#32) (max (Ideal.ofBits .f32 0xC7600000#32) (x * inv))

theorem pay1_eq (dy : Vec Ideal S4096x3072 .bf16) :
    k0_pay1 (k0_pay3 dy) (k0_pay7 dy) (k0_pay8 dy) = fun i => codeE (invR dy) (dy i) := by
  unfold k0_pay1
  dsimp only
  rw [pay78_eq]
  generalize invR dy = inv
  rw [code_core]
  simp only [bits_eq, pay3_apply]
  unfold codeE
  with_reducible rfl

theorem pay2_apply (v2 : FVec Ideal S4096x3072 .f32) (s : EReal) (a : IVec S1x1 1) (b : FVec Ideal S1x1 .f32)
    (x : Vec Ideal S4096x4096 .fp8e4m3) (acc : Vec Ideal S4096x3072 .f32) (xs : Vec Ideal S1x1 .f32) (r : Fin 4096) (j : Fin 3072) :
    k0_pay2 v2 (fun _ => s) a b x acc xs (ix2 r j) = (acc (ix2 r j) : EReal)
      + (∑ k : Fin 4096, (x (ix2 k r) : EReal) * k0_pay1 v2 a b (ix2 k j)) * (xs (ix2 0 0) * s) := by
  unfold k0_pay2
  generalize k0_pay1 v2 a b = q
  pointwise []

end Cert.ReferenceIdeal.Hand

end
-- ==== Proof.RefOut.lean ====
module

public import proofs.«01_k».proof.Proof.RefValue
public import proofs.«01_k».proof.Proof.KernelOut
public import Idealize.ShloMosaic.Lib.Pipeline.ValueKit
public import Idealize.ShloMosaic.Lib.Claim

@[expose] public section

set_option maxRecDepth 16384

noncomputable section

/-! The arrays the reference leaves, over the extended reals, element by element. -/

namespace Cert.ReferenceIdeal.Hand

open Cert.ReferenceIdeal Cert.ReferenceIdeal.Gen Cert.Num
open Idealize.ShloMosaic Idealize.ShloMosaic.TcCoe

/-! ## What the body leaves in its blocks -/

theorem off2 : (![0, 0] : Fin 2 → ℕ) = fun _ => 0 := by decide

theorem ld0 {e : EltTy} (x : S4096x3072.Idx → Elt Ideal e) : View.ld (Val := Elt Ideal) x r0_0 = x := View.ld_unit_zero off2 _ x
theorem ld1 {e : EltTy} (x : S4096x4096.Idx → Elt Ideal e) : View.ld (Val := Elt Ideal) x r0_1 = x := View.ld_unit_zero off2 _ x
theorem ld2 {e : EltTy} (x : S1x1.Idx → Elt Ideal e) : View.ld (Val := Elt Ideal) x r0_2 = x := View.ld_unit_zero off2 _ x

variable (x0 : Vec Ideal S1x1 .f32) (x1 : Vec Ideal S4096x4096 .fp8e4m3) (x2 : Vec Ideal S4096x3072 .bf16) (x3 : Vec Ideal S4096x3072 .f32)

theorem out6_eq : out0_6 x0 x1 x2 x3 = fun _ => scaleR x2 := by
  unfold out0_6 k0_pay10
  rw [ld0, pay5_eq]
  exact View.canon_unit_zero off2 _ _

theorem out5_eq : out0_5 x0 x1 x2 x3 = fun i => codeE (invR x2) (x2 i) := by
  unfold out0_5 k0_pay9 k0_pay11 k0_pay12
  rw [ld0, pay1_eq]
  exact View.canon_unit_zero off2 _ _

theorem out4_eq : out0_4 x0 x1 x2 x3 = fun i =>
    gradE (fun k a => x1 (ix2 k a)) (fun k b => codeE (invR x2) (x2 (ix2 k b))) (fun a b => x3 (ix2 a b))
      ((x0 (ix2 0 0) : EReal) * scaleR x2) (i 0) (i 1) := by
  unfold out0_4 k0_pay9 k0_pay10 k0_pay11 k0_pay12
  rw [ld0, ld0, ld1, ld2, pay5_eq]
  refine (View.canon_unit_zero off2 _ _).trans (funext fun i => ?_)
  obtain ⟨r, j, rfl⟩ : ∃ (r : Fin 4096) (j : Fin 3072), i = ix2 r j := ⟨i 0, i 1, eq_ix2 i⟩
  rw [pay2_apply, pay1_eq]
  rfl

/-! ## The arrays -/

variable (m : (ℓ : Loc nD τ sig) → Buf (Elt Ideal) ℓ)

def xM (c : Dev nD) : Vec Ideal S4096x4096 .fp8e4m3 := V m c main_v1
def dyM (c : Dev nD) : Vec Ideal S4096x3072 .bf16 := V m c main_v2
def accM (c : Dev nD) : Vec Ideal S4096x3072 .f32 := V m c main_arg3
def xsM (c : Dev nD) : Vec Ideal S1x1 .f32 := V m c main_v0

theorem idxs (t : Fin cfg0.N) : (win0_0.index t 0 = 0 ∧ win0_0.index t 1 = 0) ∧ (win0_1.index t 0 = 0 ∧ win0_1.index t 1 = 0)
    ∧ (win0_2.index t 0 = 0 ∧ win0_2.index t 1 = 0) ∧ (win0_3.index t 0 = 0 ∧ win0_3.index t 1 = 0)
    ∧ (win0_4.index t 0 = 0 ∧ win0_4.index t 1 = 0) ∧ (win0_5.index t 0 = 0 ∧ win0_5.index t 1 = 0) :=
  (by decide +kernel : ∀ t : Fin grid0.N, (win0_0.index t 0 = 0 ∧ win0_0.index t 1 = 0) ∧ (win0_1.index t 0 = 0 ∧ win0_1.index t 1 = 0)
    ∧ (win0_2.index t 0 = 0 ∧ win0_2.index t 1 = 0) ∧ (win0_3.index t 0 = 0 ∧ win0_3.index t 1 = 0)
    ∧ (win0_4.index t 0 = 0 ∧ win0_4.index t 1 = 0) ∧ (win0_5.index t 0 = 0 ∧ win0_5.index t 1 = 0)) t

theorem iblk0_eq (c : Dev nD) (t : Fin cfg0.N) : iblk m c 0 t = xsM m c := by
  funext y
  have h := (idxs t).1
  unfold xsM
  blk_ext [iblk, V, h.1, h.2]

theorem iblk1_eq (c : Dev nD) (t : Fin cfg0.N) : iblk m c 1 t = xM m c := by
  funext y
  have h := (idxs t).2.1
  unfold xM
  blk_ext [iblk, V, h.1, h.2]

theorem iblk2_eq (c : Dev nD) (t : Fin cfg0.N) : iblk m c 2 t = dyM m c := by
  funext y
  have h := (idxs t).2.2.1
  unfold dyM
  blk_ext [iblk, V, h.1, h.2]

theorem iblk3_eq (c : Dev nD) (t : Fin cfg0.N) : iblk m c 3 t = accM m c := by
  funext y
  have h := (idxs t).2.2.2.1
  unfold accM
  blk_ext [iblk, V, h.1, h.2]

/-- A block of a whole array left at one function is that function. -/
theorem arr4_of {c : Dev nD} (D : Pipeline.Dat τ (Elt Ideal) Unit ℕ (UR sig nD τ) ℕ cfg0 c) (G : Vec Ideal S4096x3072 .f32)
    (h : ∀ t, D.after 4 t = G) : D.arrAt 4 cfg0.N = G := by
  refine D.arrAt_eq_of_covers 4 _ (by decide +kernel) fun t hf y => ?_
  have hi := (idxs t).2.2.2.2.1
  blk_simp
  rw [h]
  refine congrArg G ?_
  blk_ext [hi.1, hi.2]

theorem arr5_of {c : Dev nD} (D : Pipeline.Dat τ (Elt Ideal) Unit ℕ (UR sig nD τ) ℕ cfg0 c) (G : Vec Ideal S4096x3072 .fp8e5m2)
    (h : ∀ t, D.after 5 t = G) : D.arrAt 5 cfg0.N = G := by
  refine D.arrAt_eq_of_covers 5 _ (by decide +kernel) fun t hf y => ?_
  have hi := (idxs t).2.2.2.2.2
  blk_simp
  rw [h]
  refine congrArg G ?_
  blk_ext [hi.1, hi.2]

theorem arr6_of {c : Dev nD} (D : Pipeline.Dat τ (Elt Ideal) Unit ℕ (UR sig nD τ) ℕ cfg0 c) (z : Ideal .f32)
    (h : ∀ t, D.after 6 t = fun _ => z) : D.arrAt 6 cfg0.N = fun _ => z := by
  refine D.arrAt_eq_of_covers 6 _ (by decide +kernel) fun t hf y => ?_
  blk_simp
  rw [h]

/-- The weight gradient the reference leaves. -/
def gradR (c : Dev nD) : Vec Ideal S4096x3072 .f32 := fun i =>
  gradE (fun k a => xM m c (ix2 k a)) (fun k b => codeE (invR (dyM m c)) (dyM m c (ix2 k b))) (fun a b => accM m c (ix2 a b))
    ((xsM m c (ix2 0 0) : EReal) * scaleR (dyM m c)) (i 0) (i 1)

/-- The codes the reference leaves. -/
def codesR (c : Dev nD) : Vec Ideal S4096x3072 .fp8e5m2 := fun i => codeE (invR (dyM m c)) (dyM m c i)

theorem after4_eq (c : Dev nD) (t : Fin cfg0.N) : (dats m 0 c).after 4 t = gradR m c := by
  rw [after0_4, iblk0_eq, iblk1_eq, iblk2_eq, iblk3_eq, out4_eq]
  exact funext fun i => (gradR.eq_def m c i).symm

theorem after5_eq (c : Dev nD) (t : Fin cfg0.N) : (dats m 0 c).after 5 t = codesR m c := by
  rw [after0_5, iblk0_eq, iblk1_eq, iblk2_eq, iblk3_eq, out5_eq]
  exact funext fun i => (codesR.eq_def m c i).symm

theorem after6_eq (c : Dev nD) (t : Fin cfg0.N) : (dats m 0 c).after 6 t = fun _ => scaleR (dyM m c) := by
  rw [after0_6, iblk0_eq, iblk1_eq, iblk2_eq, iblk3_eq, out6_eq]
  rfl

theorem arr4_eq (c : Dev nD) : (dats m 0 c).arrAt 4 cfg0.N = gradR m c := arr4_of (dats m 0 c) (gradR m c) (after4_eq m c)

theorem arr5_eq (c : Dev nD) : (dats m 0 c).arrAt 5 cfg0.N = codesR m c := arr5_of (dats m 0 c) (codesR m c) (after5_eq m c)

/-- The scale the reference leaves. -/
theorem arr6_eq (c : Dev nD) : (dats m 0 c).arrAt 6 cfg0.N = fun _ => scaleR (dyM m c) :=
  arr6_of (dats m 0 c) (scaleR (dyM m c)) (after6_eq m c)

/-! ## The operands, from the arguments -/

theorem xM_eq (c : Dev nD) : xM m c = shapeCast S4096x4096 (m ((c : Thread nD τ).loc main_arg0)) shapeCasts_S1x4096x4096_S4096x4096 := by
  unfold xM
  entry_read
  rfl

theorem dyM_eq (c : Dev nD) : dyM m c = shapeCast S4096x3072 (m ((c : Thread nD τ).loc main_arg2)) shapeCasts_S1x4096x3072_S4096x3072 := by
  unfold dyM
  entry_read
  rfl

theorem xsM_eq (c : Dev nD) : xsM m c = shapeCast S1x1 (m ((c : Thread nD τ).loc main_arg1)) shapeCasts_S_S1x1 := by
  unfold xsM
  entry_read
  rfl

theorem accM_eq (c : Dev nD) : accM m c = m ((c : Thread nD τ).loc main_arg3) := V_main_arg3 m c

end Cert.ReferenceIdeal.Hand

end
-- ==== Proof.Agree.lean ====
module

public import proofs.«01_k».proof.Proof.KernelOut
public import proofs.«01_k».proof.Proof.KernelEntry
public import proofs.«01_k».proof.Proof.KernelScale
public import proofs.«01_k».proof.Proof.RefOut

@[expose] public section

set_option maxRecDepth 16384

noncomputable section

/-! The two programs' scales, codes and gradients are equal over the extended reals. -/

namespace Cert.Agree

open Cert.Num
open Idealize.ShloMosaic Idealize.ShloMosaic.TcCoe

/-- One gradient has one absolute maximum, whichever way it is reduced. -/
theorem amax_eq (dy : Vec Ideal Cert.KernelIdeal.S4096x3072 .bf16) : Cert.ReferenceIdeal.Hand.amaxR dy = Cert.KernelIdeal.Hand.amaxK dy :=
  eq_of_forall_ge_iff fun z => (Cert.ReferenceIdeal.Hand.amaxR_le dy z).trans (Cert.KernelIdeal.Hand.amaxK_le dy z).symm

theorem c_max_nonneg : (0 : EReal) ≤ Ideal.ofBits .f32 0x37924925#32 := by
  rw [c_max]; exact EReal.coe_nonneg.mpr (by positivity)

theorem ratioK_nonneg (dy : Vec Ideal Cert.KernelIdeal.S4096x3072 .bf16) : 0 ≤ Cert.KernelIdeal.Hand.ratioK dy := by
  unfold Cert.KernelIdeal.Hand.ratioK
  exact mul_nonneg (Cert.KernelIdeal.Hand.amaxK_nonneg dy) c_max_nonneg

theorem ratio_zero (dy : Vec Ideal Cert.KernelIdeal.S4096x3072 .bf16) (h : Cert.KernelIdeal.Hand.amaxK dy = 0) :
    Cert.KernelIdeal.Hand.ratioK dy = 0 := by
  unfold Cert.KernelIdeal.Hand.ratioK
  rw [h, zero_mul]

theorem ratio_eq (dy : Vec Ideal Cert.KernelIdeal.S4096x3072 .bf16) : Cert.ReferenceIdeal.Hand.ratioR dy = Cert.KernelIdeal.Hand.ratioK dy := by
  unfold Cert.KernelIdeal.Hand.ratioK Cert.ReferenceIdeal.Hand.ratioR
  rw [amax_eq]

/-- The scales are equal. -/
theorem scale_agree (dy : Vec Ideal Cert.KernelIdeal.S4096x3072 .bf16) : Cert.KernelIdeal.Hand.scaleOf dy = Cert.ReferenceIdeal.Hand.scaleR dy := by
  unfold Cert.ReferenceIdeal.Hand.scaleR
  rw [Cert.KernelIdeal.Hand.scaleOf_eq, ratio_eq]
  exact (scale_eq _ _ (ratioK_nonneg dy) (ratio_zero dy)).1

/-- The scales' reciprocals are equal. -/
theorem inv_agree (dy : Vec Ideal Cert.KernelIdeal.S4096x3072 .bf16) : Cert.KernelIdeal.Hand.invOf dy = Cert.ReferenceIdeal.Hand.invR dy := by
  unfold Cert.ReferenceIdeal.Hand.invR
  rw [Cert.KernelIdeal.Hand.invOf_eq, ratio_eq]
  exact (scale_eq _ _ (ratioK_nonneg dy) (ratio_zero dy)).2

theorem quant_core {S : Shape} (x : FVec Ideal S .bf16) (inv lo hi : Ideal .f32) (h1 h2) :
    truncf (F := Ideal) .fp8e5m2 (minimumf (broadcast S hi) (maximumf (broadcast S lo) (mulf (extf .f32 x h1) (broadcast S inv)))) h2
    = fun i => (min hi (max lo ((x i : EReal) * inv)) : EReal) := rfl

/-- The codes are equal. -/
theorem codes_agree (dy : Vec Ideal Cert.KernelIdeal.S4096x3072 .bf16) :
    Cert.KernelIdeal.Hand.codesOf dy = fun i => Cert.ReferenceIdeal.Hand.codeE (Cert.ReferenceIdeal.Hand.invR dy) (dy i) := by
  unfold Cert.KernelIdeal.Hand.codesOf Cert.KernelIdeal.Hand.quant
  rw [inv_agree]
  generalize Cert.ReferenceIdeal.Hand.invR dy = inv
  rw [quant_core]
  simp only [Cert.ReferenceIdeal.Hand.bits_eq]
  unfold Cert.ReferenceIdeal.Hand.codeE
  with_reducible rfl

section Arrays

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ) (c : Dev Cert.KernelIdeal.nD)

theorem x_agree (h : m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0)) :
    Cert.ReferenceIdeal.Hand.xM m' c = Cert.KernelIdeal.Hand.xM m c := by
  rw [Cert.ReferenceIdeal.Hand.xM_eq, Cert.KernelIdeal.Hand.xM_eq]
  exact congrArg (fun v => shapeCast Cert.KernelIdeal.S4096x4096 v Cert.KernelIdeal.Gen.shapeCasts_S1x4096x4096_S4096x4096) h

theorem xs_agree (h : m' ((c.tc : Thread Cert.ReferenceIdeal.nD Cert.ReferenceIdeal.τ).loc Cert.ReferenceIdeal.main_arg1)
      = m ((c.tc : Thread Cert.KernelIdeal.nD Cert.KernelIdeal.τ).loc Cert.KernelIdeal.main_arg1)) :
    Cert.ReferenceIdeal.Hand.xsM m' c = Cert.KernelIdeal.Hand.xsM m c := by
  rw [Cert.ReferenceIdeal.Hand.xsM_eq, Cert.KernelIdeal.Hand.xsM_eq]
  exact congrArg (fun v => shapeCast Cert.KernelIdeal.S1x1 v Cert.KernelIdeal.Gen.shapeCasts_S_S1x1) h

theorem dy_agree (h : m' ((c.tc : Thread Cert.ReferenceIdeal.nD Cert.ReferenceIdeal.τ).loc Cert.ReferenceIdeal.main_arg2)
      = m ((c.tc : Thread Cert.KernelIdeal.nD Cert.KernelIdeal.τ).loc Cert.KernelIdeal.main_arg2)) :
    Cert.ReferenceIdeal.Hand.dyM m' c = Cert.KernelIdeal.Hand.dyOf m c := by
  rw [Cert.ReferenceIdeal.Hand.dyM_eq, Cert.KernelIdeal.Hand.dyOf_eq]
  exact congrArg (fun v => shapeCast Cert.KernelIdeal.S4096x3072 v Cert.KernelIdeal.Gen.shapeCasts_S1x4096x3072_S4096x3072) h

theorem acc_agree (h : m' ((c.tc : Thread Cert.ReferenceIdeal.nD Cert.ReferenceIdeal.τ).loc Cert.ReferenceIdeal.main_arg3)
      = m ((c.tc : Thread Cert.KernelIdeal.nD Cert.KernelIdeal.τ).loc Cert.KernelIdeal.main_arg3)) :
    Cert.ReferenceIdeal.Hand.accM m' c = Cert.KernelIdeal.Hand.accM m c := by
  rw [Cert.ReferenceIdeal.Hand.accM_eq, Cert.KernelIdeal.Hand.accM_eq]
  exact h

variable (hx : Cert.ReferenceIdeal.Hand.xM m' c = Cert.KernelIdeal.Hand.xM m c)
  (hxs : Cert.ReferenceIdeal.Hand.xsM m' c = Cert.KernelIdeal.Hand.xsM m c)
  (hdy : Cert.ReferenceIdeal.Hand.dyM m' c = Cert.KernelIdeal.Hand.dyOf m c)
  (hacc : Cert.ReferenceIdeal.Hand.accM m' c = Cert.KernelIdeal.Hand.accM m c)

include hdy in
/-- The third results are equal. -/
theorem scales : (Cert.ReferenceIdeal.Gen.dats m' 0 c).arrAt 6 Cert.ReferenceIdeal.cfg0.N
    = (Cert.KernelIdeal.Hand.dats m 0 c).arrAt 4 Cert.KernelIdeal.cfg0.N := by
  refine (Cert.ReferenceIdeal.Hand.arr6_eq m' c).trans (Eq.trans ?_ (Cert.KernelIdeal.Hand.arr4_eq m c).symm)
  rw [hdy, scale_agree]
  rfl

include hdy in
/-- The second results are equal. -/
theorem codes : (Cert.ReferenceIdeal.Gen.dats m' 0 c).arrAt 5 Cert.ReferenceIdeal.cfg0.N
    = Cert.KernelIdeal.Hand.codesOf (Cert.KernelIdeal.Hand.dyOf m c) := by
  refine (Cert.ReferenceIdeal.Hand.arr5_eq m' c).trans ?_
  rw [codes_agree]
  funext i
  unfold Cert.ReferenceIdeal.Hand.codesR
  rw [hdy]

include hx hxs hdy hacc in
/-- The first results are equal. -/
theorem grads : (Cert.ReferenceIdeal.Gen.dats m' 0 c).arrAt 4 Cert.ReferenceIdeal.cfg0.N
    = (Cert.KernelIdeal.Hand.dats m 0 c).arrAt 3 Cert.KernelIdeal.cfg0.N := by
  refine (Cert.ReferenceIdeal.Hand.arr4_eq m' c).trans (Eq.trans ?_ (Cert.KernelIdeal.Hand.arr3_eq m c).symm)
  funext i
  unfold Cert.ReferenceIdeal.Hand.gradR
  rw [hx, hxs, hdy, hacc, codes_agree, scale_agree]

end Arrays

end Cert.Agree

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.BodyBits
public import proofs.«01_k».proof.Proof.Agree
public import Idealize.ShloMosaic.Adequacy
public import Idealize.ShloMosaic.Init

@[expose] public section

noncomputable section

namespace Cert.Proof

open Idealize.ShloMosaic Idealize.SL.Sem Cert.Kernel

/-- From memories that agree on the arguments, kernel and reference end with equal gradients, codes and scales. -/
theorem algebraic : algebraic_KernelIdeal_ReferenceIdeal (hKernelIdeal := Cert.KernelIdeal.Gen.facts) (hReferenceIdeal := Cert.ReferenceIdeal.Gen.facts) := by
  intro m g m' g' _ h
  refine ⟨fun c => (Cert.KernelIdeal.Hand.dats m 0 c).arrAt 3 Cert.KernelIdeal.cfg0.N,
    fun c => Cert.KernelIdeal.Hand.codesOf (Cert.KernelIdeal.Hand.dyOf m c),
    fun c => (Cert.KernelIdeal.Hand.dats m 0 c).arrAt 4 Cert.KernelIdeal.cfg0.N,
    (θ_run _ _ _).mono (fun r hr => hr.1) (Cert.KernelIdeal.Hand.run_all m g),
    (θ_run _ _ _).mono (fun r hr c => ?_) (Cert.ReferenceIdeal.Value.run_blocks m' g')⟩
  obtain ⟨h0, h1, h2, h3⟩ := h c
  have hx := Cert.Agree.x_agree m m' c h0
  have hxs := Cert.Agree.xs_agree m m' c h1
  have hdy := Cert.Agree.dy_agree m m' c h2
  have hacc := Cert.Agree.acc_agree m m' c h3
  obtain ⟨r0, r1, r2, ha⟩ := hr c
  exact ⟨r0.trans (Cert.Agree.grads m m' c hx hxs hdy hacc), r1.trans (Cert.Agree.codes m m' c hdy),
    r2.trans (Cert.Agree.scales m m' c hdy), ha⟩

/-- The certificate's five claims. -/
theorem claim : Cert.Claim := ⟨Cert.Kernel.Gen.facts, Cert.KernelIdeal.Gen.facts, Cert.ReferenceIdeal.Gen.facts,
  fun m g _ => Cert.Kernel.Hand.frame m g, fun m g _ => Cert.KernelIdeal.Hand.frame m g, fun m g _ => Cert.ReferenceIdeal.Gen.frame m g,
  trivial, algebraic⟩

end Cert.Proof

end
